-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x14336x4096 : Shape := ⟨3, ![1, 14336, 4096]⟩
abbrev S4096 : Shape := ⟨1, ![4096]⟩
abbrev S14336x4096 : Shape := ⟨2, ![14336, 4096]⟩
abbrev S32x128 : Shape := ⟨2, ![32, 128]⟩
abbrev S14336x2048 : Shape := ⟨2, ![14336, 2048]⟩
abbrev S14336x32 : Shape := ⟨2, ![14336, 32]⟩
abbrev S256x4096 : Shape := ⟨2, ![256, 4096]⟩
abbrev S256x2048 : Shape := ⟨2, ![256, 2048]⟩
abbrev S256x32 : Shape := ⟨2, ![256, 32]⟩
abbrev S16x256x256 : Shape := ⟨3, ![16, 256, 256]⟩
abbrev S2x128x256 : Shape := ⟨3, ![2, 128, 256]⟩
abbrev S2x2048x256 : Shape := ⟨3, ![2, 2048, 256]⟩
abbrev S32x8x256 : Shape := ⟨3, ![32, 8, 256]⟩
abbrev S32x256 : Shape := ⟨2, ![32, 256]⟩
abbrev S256x256 : Shape := ⟨2, ![256, 256]⟩
abbrev S1x128 : Shape := ⟨2, ![1, 128]⟩
abbrev S1x256 : Shape := ⟨2, ![1, 256]⟩
abbrev S1x256x256 : Shape := ⟨3, ![1, 256, 256]⟩
abbrev S128x256 : Shape := ⟨2, ![128, 256]⟩
abbrev S1x128x256 : Shape := ⟨3, ![1, 128, 256]⟩
abbrev S1x8x256 : Shape := ⟨3, ![1, 8, 256]⟩
abbrev S8x256 : Shape := ⟨2, ![8, 256]⟩
abbrev S1x64x256 : Shape := ⟨3, ![1, 64, 256]⟩
abbrev S64x256 : Shape := ⟨2, ![64, 256]⟩

abbrev nBuf : Space → Nat
  | .hbm => 6
  | .vmem => 13
  | .smem => 0
  | _ => 0

abbrev bufTy : (tb : Table) → Fin (tcTables nBuf tb) → BufTy
  | .hbm, ⟨0, _⟩ => ⟨S1x14336x4096, .bf16⟩
  | .hbm, ⟨1, _⟩ => ⟨S4096, .f32⟩
  | .hbm, ⟨2, _⟩ => ⟨S14336x4096, .bf16⟩
  | .hbm, ⟨3, _⟩ => ⟨S32x128, .f32⟩
  | .hbm, ⟨4, _⟩ => ⟨S14336x2048, .i8⟩
  | .hbm, ⟨5, _⟩ => ⟨S14336x32, .f32⟩
  | .local _ .vmem, ⟨0, _⟩ => ⟨S256x4096, .bf16⟩
  | .local _ .vmem, ⟨1, _⟩ => ⟨S256x4096, .bf16⟩
  | .local _ .vmem, ⟨2, _⟩ => ⟨S32x128, .f32⟩
  | .local _ .vmem, ⟨3, _⟩ => ⟨S256x2048, .i8⟩
  | .local _ .vmem, ⟨4, _⟩ => ⟨S256x2048, .i8⟩
  | .local _ .vmem, ⟨5, _⟩ => ⟨S256x32, .f32⟩
  | .local _ .vmem, ⟨6, _⟩ => ⟨S256x32, .f32⟩
  | .local _ .vmem, ⟨7, _⟩ => ⟨S16x256x256, .bf16⟩
  | .local _ .vmem, ⟨8, _⟩ => ⟨S2x128x256, .bf16⟩
  | .local _ .vmem, ⟨9, _⟩ => ⟨S16x256x256, .f32⟩
  | .local _ .vmem, ⟨10, _⟩ => ⟨S2x2048x256, .bf16⟩
  | .local _ .vmem, ⟨11, _⟩ => ⟨S32x8x256, .f32⟩
  | .local _ .vmem, ⟨12, _⟩ => ⟨S32x256, .f32⟩
  | _, _ => ⟨S1x14336x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x14336x4096 : Shape := ⟨3, ![1, 14336, 4096]⟩
abbrev S4096 : Shape := ⟨1, ![4096]⟩
abbrev S1x1x4096 : Shape := ⟨3, ![1, 1, 4096]⟩
abbrev S1x14336x2048x2x1 : Shape := ⟨5, ![1, 14336, 2048, 2, 1]⟩
abbrev S1x14336x2048x1x1 : Shape := ⟨5, ![1, 14336, 2048, 1, 1]⟩
abbrev S1x14336x2048x1 : Shape := ⟨4, ![1, 14336, 2048, 1]⟩
abbrev S1x14336x1024x2x2 : Shape := ⟨5, ![1, 14336, 1024, 2, 2]⟩
abbrev S1x14336x1024x1x2 : Shape := ⟨5, ![1, 14336, 1024, 1, 2]⟩
abbrev S1x14336x1024x2 : Shape := ⟨4, ![1, 14336, 1024, 2]⟩
abbrev S1x14336x512x2x4 : Shape := ⟨5, ![1, 14336, 512, 2, 4]⟩
abbrev S1x14336x512x1x4 : Shape := ⟨5, ![1, 14336, 512, 1, 4]⟩
abbrev S1x14336x512x4 : Shape := ⟨4, ![1, 14336, 512, 4]⟩
abbrev S1x14336x256x2x8 : Shape := ⟨5, ![1, 14336, 256, 2, 8]⟩
abbrev S1x14336x256x1x8 : Shape := ⟨5, ![1, 14336, 256, 1, 8]⟩
abbrev S1x14336x256x8 : Shape := ⟨4, ![1, 14336, 256, 8]⟩
abbrev S1x14336x128x2x16 : Shape := ⟨5, ![1, 14336, 128, 2, 16]⟩
abbrev S1x14336x128x1x16 : Shape := ⟨5, ![1, 14336, 128, 1, 16]⟩
abbrev S1x14336x128x16 : Shape := ⟨4, ![1, 14336, 128, 16]⟩
abbrev S1x14336x64x2x32 : Shape := ⟨5, ![1, 14336, 64, 2, 32]⟩
abbrev S1x14336x64x1x32 : Shape := ⟨5, ![1, 14336, 64, 1, 32]⟩
abbrev S1x14336x64x32 : Shape := ⟨4, ![1, 14336, 64, 32]⟩
abbrev S1x14336x32x2x64 : Shape := ⟨5, ![1, 14336, 32, 2, 64]⟩
abbrev S1x14336x32x1x64 : Shape := ⟨5, ![1, 14336, 32, 1, 64]⟩
abbrev S1x14336x32x64 : Shape := ⟨4, ![1, 14336, 32, 64]⟩
abbrev S1x14336x16x2x128 : Shape := ⟨5, ![1, 14336, 16, 2, 128]⟩
abbrev S1x14336x16x1x128 : Shape := ⟨5, ![1, 14336, 16, 1, 128]⟩
abbrev S1x14336x16x128 : Shape := ⟨4, ![1, 14336, 16, 128]⟩
abbrev S1x14336x8x2x256 : Shape := ⟨5, ![1, 14336, 8, 2, 256]⟩
abbrev S1x14336x8x1x256 : Shape := ⟨5, ![1, 14336, 8, 1, 256]⟩
abbrev S1x14336x8x256 : Shape := ⟨4, ![1, 14336, 8, 256]⟩
abbrev S1x14336x4x2x512 : Shape := ⟨5, ![1, 14336, 4, 2, 512]⟩
abbrev S1x14336x4x1x512 : Shape := ⟨5, ![1, 14336, 4, 1, 512]⟩
abbrev S1x14336x4x512 : Shape := ⟨4, ![1, 14336, 4, 512]⟩
abbrev S1x14336x2x2x1024 : Shape := ⟨5, ![1, 14336, 2, 2, 1024]⟩
abbrev S1x14336x2x1x1024 : Shape := ⟨5, ![1, 14336, 2, 1, 1024]⟩
abbrev S1x14336x2x1024 : Shape := ⟨4, ![1, 14336, 2, 1024]⟩
abbrev S1x14336x1x2x2048 : Shape := ⟨5, ![1, 14336, 1, 2, 2048]⟩
abbrev S1x14336x1x1x2048 : Shape := ⟨5, ![1, 14336, 1, 1, 2048]⟩
abbrev S1x14336x1x2048 : Shape := ⟨4, ![1, 14336, 1, 2048]⟩
abbrev S_ : Shape := ⟨0, ![]⟩
abbrev S1x14336x32x128 : Shape := ⟨4, ![1, 14336, 32, 128]⟩
abbrev S1x14336x32 : Shape := ⟨3, ![1, 14336, 32]⟩
abbrev S1x14336x32x1 : Shape := ⟨4, ![1, 14336, 32, 1]⟩
abbrev S1x14336x2048x2 : Shape := ⟨4, ![1, 14336, 2048, 2]⟩
abbrev S1x14336x2048 : Shape := ⟨3, ![1, 14336, 2048]⟩
abbrev S14336x2048 : Shape := ⟨2, ![14336, 2048]⟩
abbrev S14336x32 : Shape := ⟨2, ![14336, 32]⟩

abbrev nBuf : Space → Nat
  | .hbm => 185
  | .vmem => 0
  | .smem => 0
  | _ => 0

abbrev hbmTy0_0 (i : Nat) : BufTy := match i % 128 with
  | 0 => ⟨S1x14336x4096, .bf16⟩
  | 1 => ⟨S4096, .f32⟩
  | 2 => ⟨S1x14336x4096, .f32⟩
  | 3 => ⟨S1x1x4096, .f32⟩
  | 4 => ⟨S1x14336x4096, .f32⟩
  | 5 => ⟨S1x14336x4096, .f32⟩
  | 6 => ⟨S1x14336x2048x2x1, .f32⟩
  | 7 => ⟨S1x14336x2048x1x1, .f32⟩
  | 8 => ⟨S1x14336x2048x1, .f32⟩
  | 9 => ⟨S1x14336x2048x1x1, .f32⟩
  | 10 => ⟨S1x14336x2048x1, .f32⟩
  | 11 => ⟨S1x14336x2048x1, .f32⟩
  | 12 => ⟨S1x14336x2048x1, .f32⟩
  | 13 => ⟨S1x14336x2048x1x1, .f32⟩
  | 14 => ⟨S1x14336x2048x1x1, .f32⟩
  | 15 => ⟨S1x14336x2048x2x1, .f32⟩
  | 16 => ⟨S1x14336x4096, .f32⟩
  | 17 => ⟨S1x14336x1024x2x2, .f32⟩
  | 18 => ⟨S1x14336x1024x1x2, .f32⟩
  | 19 => ⟨S1x14336x1024x2, .f32⟩
  | 20 => ⟨S1x14336x1024x1x2, .f32⟩
  | 21 => ⟨S1x14336x1024x2, .f32⟩
  | 22 => ⟨S1x14336x1024x2, .f32⟩
  | 23 => ⟨S1x14336x1024x2, .f32⟩
  | 24 => ⟨S1x14336x1024x1x2, .f32⟩
  | 25 => ⟨S1x14336x1024x1x2, .f32⟩
  | 26 => ⟨S1x14336x1024x2x2, .f32⟩
  | 27 => ⟨S1x14336x4096, .f32⟩
  | 28 => ⟨S1x14336x512x2x4, .f32⟩
  | 29 => ⟨S1x14336x512x1x4, .f32⟩
  | 30 => ⟨S1x14336x512x4, .f32⟩
  | 31 => ⟨S1x14336x512x1x4, .f32⟩
  | 32 => ⟨S1x14336x512x4, .f32⟩
  | 33 => ⟨S1x14336x512x4, .f32⟩
  | 34 => ⟨S1x14336x512x4, .f32⟩
  | 35 => ⟨S1x14336x512x1x4, .f32⟩
  | 36 => ⟨S1x14336x512x1x4, .f32⟩
  | 37 => ⟨S1x14336x512x2x4, .f32⟩
  | 38 => ⟨S1x14336x4096, .f32⟩
  | 39 => ⟨S1x14336x256x2x8, .f32⟩
  | 40 => ⟨S1x14336x256x1x8, .f32⟩
  | 41 => ⟨S1x14336x256x8, .f32⟩
  | 42 => ⟨S1x14336x256x1x8, .f32⟩
  | 43 => ⟨S1x14336x256x8, .f32⟩
  | 44 => ⟨S1x14336x256x8, .f32⟩
  | 45 => ⟨S1x14336x256x8, .f32⟩
  | 46 => ⟨S1x14336x256x1x8, .f32⟩
  | 47 => ⟨S1x14336x256x1x8, .f32⟩
  | 48 => ⟨S1x14336x256x2x8, .f32⟩
  | 49 => ⟨S1x14336x4096, .f32⟩
  | 50 => ⟨S1x14336x128x2x16, .f32⟩
  | 51 => ⟨S1x14336x128x1x16, .f32⟩
  | 52 => ⟨S1x14336x128x16, .f32⟩
  | 53 => ⟨S1x14336x128x1x16, .f32⟩
  | 54 => ⟨S1x14336x128x16, .f32⟩
  | 55 => ⟨S1x14336x128x16, .f32⟩
  | 56 => ⟨S1x14336x128x16, .f32⟩
  | 57 => ⟨S1x14336x128x1x16, .f32⟩
  | 58 => ⟨S1x14336x128x1x16, .f32⟩
  | 59 => ⟨S1x14336x128x2x16, .f32⟩
  | 60 => ⟨S1x14336x4096, .f32⟩
  | 61 => ⟨S1x14336x64x2x32, .f32⟩
  | 62 => ⟨S1x14336x64x1x32, .f32⟩
  | 63 => ⟨S1x14336x64x32, .f32⟩
  | 64 => ⟨S1x14336x64x1x32, .f32⟩
  | 65 => ⟨S1x14336x64x32, .f32⟩
  | 66 => ⟨S1x14336x64x32, .f32⟩
  | 67 => ⟨S1x14336x64x32, .f32⟩
  | 68 => ⟨S1x14336x64x1x32, .f32⟩
  | 69 => ⟨S1x14336x64x1x32, .f32⟩
  | 70 => ⟨S1x14336x64x2x32, .f32⟩
  | 71 => ⟨S1x14336x4096, .f32⟩
  | 72 => ⟨S1x14336x32x2x64, .f32⟩
  | 73 => ⟨S1x14336x32x1x64, .f32⟩
  | 74 => ⟨S1x14336x32x64, .f32⟩
  | 75 => ⟨S1x14336x32x1x64, .f32⟩
  | 76 => ⟨S1x14336x32x64, .f32⟩
  | 77 => ⟨S1x14336x32x64, .f32⟩
  | 78 => ⟨S1x14336x32x64, .f32⟩
  | 79 => ⟨S1x14336x32x1x64, .f32⟩
  | 80 => ⟨S1x14336x32x1x64, .f32⟩
  | 81 => ⟨S1x14336x32x2x64, .f32⟩
  | 82 => ⟨S1x14336x4096, .f32⟩
  | 83 => ⟨S1x14336x16x2x128, .f32⟩
  | 84 => ⟨S1x14336x16x1x128, .f32⟩
  | 85 => ⟨S1x14336x16x128, .f32⟩
  | 86 => ⟨S1x14336x16x1x128, .f32⟩
  | 87 => ⟨S1x14336x16x128, .f32⟩
  | 88 => ⟨S1x14336x16x128, .f32⟩
  | 89 => ⟨S1x14336x16x128, .f32⟩
  | 90 => ⟨S1x14336x16x1x128, .f32⟩
  | 91 => ⟨S1x14336x16x1x128, .f32⟩
  | 92 => ⟨S1x14336x16x2x128, .f32⟩
  | 93 => ⟨S1x14336x4096, .f32⟩
  | 94 => ⟨S1x14336x8x2x256, .f32⟩
  | 95 => ⟨S1x14336x8x1x256, .f32⟩
  | 96 => ⟨S1x14336x8x256, .f32⟩
  | 97 => ⟨S1x14336x8x1x256, .f32⟩
  | 98 => ⟨S1x14336x8x256, .f32⟩
  | 99 => ⟨S1x14336x8x256, .f32⟩
  | 100 => ⟨S1x14336x8x256, .f32⟩
  | 101 => ⟨S1x14336x8x1x256, .f32⟩
  | 102 => ⟨S1x14336x8x1x256, .f32⟩
  | 103 => ⟨S1x14336x8x2x256, .f32⟩
  | 104 => ⟨S1x14336x4096, .f32⟩
  | 105 => ⟨S1x14336x4x2x512, .f32⟩
  | 106 => ⟨S1x14336x4x1x512, .f32⟩
  | 107 => ⟨S1x14336x4x512, .f32⟩
  | 108 => ⟨S1x14336x4x1x512, .f32⟩
  | 109 => ⟨S1x14336x4x512, .f32⟩
  | 110 => ⟨S1x14336x4x512, .f32⟩
  | 111 => ⟨S1x14336x4x512, .f32⟩
  | 112 => ⟨S1x14336x4x1x512, .f32⟩
  | 113 => ⟨S1x14336x4x1x512, .f32⟩
  | 114 => ⟨S1x14336x4x2x512, .f32⟩
  | 115 => ⟨S1x14336x4096, .f32⟩
  | 116 => ⟨S1x14336x2x2x1024, .f32⟩
  | 117 => ⟨S1x14336x2x1x1024, .f32⟩
  | 118 => ⟨S1x14336x2x1024, .f32⟩
  | 119 => ⟨S1x14336x2x1x1024, .f32⟩
  | 120 => ⟨S1x14336x2x1024, .f32⟩
  | 121 => ⟨S1x14336x2x1024, .f32⟩
  | 122 => ⟨S1x14336x2x1024, .f32⟩
  | 123 => ⟨S1x14336x2x1x1024, .f32⟩
  | 124 => ⟨S1x14336x2x1x1024, .f32⟩
  | 125 => ⟨S1x14336x2x2x1024, .f32⟩
  | 126 => ⟨S1x14336x4096, .f32⟩
  | 127 => ⟨S1x14336x1x2x2048, .f32⟩
  | _ => ⟨S1x14336x4096, .bf16⟩

abbrev hbmTy0_1 (i : Nat) : BufTy := match i % 128 with
  | 0 => ⟨S1x14336x1x1x2048, .f32⟩
  | 1 => ⟨S1x14336x1x2048, .f32⟩
  | 2 => ⟨S1x14336x1x1x2048, .f32⟩
  | 3 => ⟨S1x14336x1x2048, .f32⟩
  | 4 => ⟨S1x14336x1x2048, .f32⟩
  | 5 => ⟨S1x14336x1x2048, .f32⟩
  | 6 => ⟨S1x14336x1x1x2048, .f32⟩
  | 7 => ⟨S1x14336x1x1x2048, .f32⟩
  | 8 => ⟨S1x14336x1x2x2048, .f32⟩
  | 9 => ⟨S1x14336x4096, .f32⟩
  | 10 => ⟨S_, .f32⟩
  | 11 => ⟨S1x14336x4096, .f32⟩
  | 12 => ⟨S1x14336x4096, .f32⟩
  | 13 => ⟨S1x14336x32x128, .f32⟩
  | 14 => ⟨S1x14336x32x128, .f32⟩
  | 15 => ⟨S_, .f32⟩
  | 16 => ⟨S1x14336x32, .f32⟩
  | 17 => ⟨S_, .f32⟩
  | 18 => ⟨S1x14336x32, .f32⟩
  | 19 => ⟨S1x14336x32, .i1⟩
  | 20 => ⟨S_, .f32⟩
  | 21 => ⟨S1x14336x32, .f32⟩
  | 22 => ⟨S1x14336x32, .f32⟩
  | 23 => ⟨S_, .f32⟩
  | 24 => ⟨S1x14336x32, .f32⟩
  | 25 => ⟨S1x14336x32, .f32⟩
  | 26 => ⟨S1x14336x32x1, .f32⟩
  | 27 => ⟨S1x14336x32x128, .f32⟩
  | 28 => ⟨S1x14336x32x128, .f32⟩
  | 29 => ⟨S1x14336x32x128, .f32⟩
  | 30 => ⟨S_, .f32⟩
  | 31 => ⟨S_, .f32⟩
  | 32 => ⟨S_, .f32⟩
  | 33 => ⟨S1x14336x32x128, .f32⟩
  | 34 => ⟨S1x14336x32x128, .f32⟩
  | 35 => ⟨S_, .f32⟩
  | 36 => ⟨S1x14336x32x128, .f32⟩
  | 37 => ⟨S1x14336x32x128, .f32⟩
  | 38 => ⟨S1x14336x32x128, .i32⟩
  | 39 => ⟨S1x14336x32x128, .i8⟩
  | 40 => ⟨S1x14336x4096, .i8⟩
  | 41 => ⟨S1x14336x4096, .i32⟩
  | 42 => ⟨S_, .i32⟩
  | 43 => ⟨S1x14336x4096, .i32⟩
  | 44 => ⟨S1x14336x4096, .i32⟩
  | 45 => ⟨S1x14336x2048x2, .i32⟩
  | 46 => ⟨S1x14336x2048x1, .i32⟩
  | 47 => ⟨S1x14336x2048, .i32⟩
  | 48 => ⟨S1x14336x2048x1, .i32⟩
  | 49 => ⟨S1x14336x2048, .i32⟩
  | 50 => ⟨S_, .i32⟩
  | 51 => ⟨S1x14336x2048, .i32⟩
  | 52 => ⟨S1x14336x2048, .i32⟩
  | 53 => ⟨S1x14336x2048, .i32⟩
  | 54 => ⟨S1x14336x2048, .i8⟩
  | 55 => ⟨S14336x2048, .i8⟩
  | 56 => ⟨S14336x32, .f32⟩
  | _ => ⟨S1x14336x4096, .bf16⟩

abbrev hbmTy (i : Nat) : BufTy := match i / 128 with
  | 0 => hbmTy0_0 i
  | 1 => hbmTy0_1 i
  | _ => ⟨S1x14336x4096, .bf16⟩

abbrev bufTy : (tb : Table) → Fin (tcTables nBuf tb) → BufTy
  | .hbm, ⟨i, _⟩ => hbmTy i
  | _, _ => ⟨S1x14336x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_cst : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_v139 : Ref sig .tc := ⟨.hbm, 142, rfl⟩
abbrev main_cst_0 : Ref sig .tc := ⟨.hbm, 143, rfl⟩
abbrev main_v140 : Ref sig .tc := ⟨.hbm, 144, rfl⟩
abbrev main_cst_1 : Ref sig .tc := ⟨.hbm, 145, rfl⟩
abbrev main_v141 : Ref sig .tc := ⟨.hbm, 146, rfl⟩
abbrev main_v142 : Ref sig .tc := ⟨.hbm, 147, rfl⟩
abbrev main_cst_2 : Ref sig .tc := ⟨.hbm, 148, rfl⟩
abbrev main_v143 : Ref sig .tc := ⟨.hbm, 149, rfl⟩
abbrev main_v144 : Ref sig .tc := ⟨.hbm, 150, rfl⟩
abbrev main_cst_3 : Ref sig .tc := ⟨.hbm, 151, rfl⟩
abbrev main_call0_v0 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_cst_4 : Ref sig .tc := ⟨.hbm, 158, rfl⟩
abbrev main_cst_5 : Ref sig .tc := ⟨.hbm, 159, rfl⟩
abbrev main_call2_v0 : Ref sig .tc := ⟨.hbm, 160, rfl⟩
abbrev main_call2_v1 : Ref sig .tc := ⟨.hbm, 161, rfl⟩
abbrev main_call2_v2 : Ref sig .tc := ⟨.hbm, 162, rfl⟩
abbrev main_call2_v3 : Ref sig .tc := ⟨.hbm, 163, rfl⟩
abbrev main_call2_v4 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_c : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_c_6 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩

abbrev nD : Nat := 1
abbrev τ : Topo := Topo.v7x

variable {F : FTy → Type} [FloatOps F]
-- ==== Proof.Blocks.lean ====
/- What the kernel's body writes, as lists of stored pieces in closed form. The body of one grid point
   handles 256 rows of the weight matrix. It stores, in order,
   * sixteen planes of the transform's first eleven steps (`base`),
   * the last two steps in place, eight sublanes at a time (`xs`: step `k` of 128 updates four planes), and on the way
     the running maxima of the magnitudes (`acc`), stored once per group of 128 channels (`ms`),
   * the reciprocal scales, the clamped codes (`cs`) and the packed bytes (`ws`).
   At the first point it also stores the sign matrices (`hsL`) and the two packing matrices (`packL`).
   The most recent store is the head of a list. -/
module

public import proofs.«01_k».proof.Proof.Gen.KernelIdeal.Skeleton

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-! ## The radix-4 butterfly -/

/-- The four outputs of a radix-4 butterfly on whole vectors. -/
def radix4 {s : Shape} (n : ℕ) (y0 y1 y2 y3 : FVec F s .f32) : FVec F s .f32 :=
  match n with
  | 0 => addf (addf y0 y1) (addf y2 y3)
  | 1 => addf (subf y0 y1) (subf y2 y3)
  | 2 => subf (addf y0 y1) (addf y2 y3)
  | _ => subf (subf y0 y1) (subf y2 y3)

/-! ## The first ten steps: a matrix product per plane, and a butterfly over four neighbouring planes -/

theorem inb_plane (b : ℕ) : ∀ a, (![b % 16, 0, 0] : Fin 3 → ℕ) a + S1x256x256.size a ≤ S16x256x256.size a := by
  intro a; fin_cases a
  · show b % 16 + 1 ≤ 16; omega
  · show 0 + 256 ≤ 256; omega
  · show 0 + 256 ≤ 256; omega

/-- Plane `b` of sixteen. -/
abbrev plane (b : ℕ) : Rect S16x256x256 := Rect.unit (s := S16x256x256) ![b % 16, 0, 0] S1x256x256.size (inb_plane b)

theorem inb_cols (b : ℕ) : ∀ a, (![0, 256 * (b % 16)] : Fin 2 → ℕ) a + S256x256.size a ≤ S256x4096.size a := by
  intro a; fin_cases a
  · show 0 + 256 ≤ 256; omega
  · show 256 * (b % 16) + 256 ≤ 4096; omega

/-- Columns `256 b … 256 b + 255` of the weight block. -/
abbrev cols (b : ℕ) : Rect S256x4096 := Rect.unit (s := S256x4096) ![0, 256 * (b % 16)] S256x256.size (inb_cols b)

/-- The product of a sign matrix with a block of the weights. -/
def prod (H : Vec F S1x256x256 .bf16) (W : Vec F S256x256 .bf16) : FVec F S256x256 .f32 :=
  matmul dot_S256x256_S256x256_S256x256_1_1_0_0_n_n none (shapeCast S256x256 H shapeCasts_S1x256x256_S256x256)
    (shapeCast S256x256 W shapeCasts_S256x256_S256x256) (constant S256x256 .f32 0x00000000#32)

variable (H : ℕ → Vec F S1x256x256 .bf16) (W : ℕ → Vec F S256x256 .bf16)

/-- What is stored in plane `4 q + n`. -/
def basePay (q n : ℕ) : FVec F S1x256x256 .f32 :=
  shapeCast S1x256x256 (radix4 n (prod (H (4 * q)) (W (4 * q))) (prod (H (4 * q + 1)) (W (4 * q + 1)))
    (prod (H (4 * q + 2)) (W (4 * q + 2))) (prod (H (4 * q + 3)) (W (4 * q + 3)))) shapeCasts_S256x256_S1x256x256

/-- The first `4 q` planes stored. -/
def base : ℕ → List (View.Piece (Elt F) S16x256x256 .f32)
  | 0 => []
  | q + 1 => ⟨plane (4 * q + 3), basePay H W q 3⟩ :: ⟨plane (4 * q + 2), basePay H W q 2⟩ ::
      ⟨plane (4 * q + 1), basePay H W q 1⟩ :: ⟨plane (4 * q), basePay H W q 0⟩ :: base q

/-! ## The last two steps, in place -/

theorem inb_rows (k n : ℕ) : ∀ a, (![k / 32 % 4 + 4 * (n % 4), 64 * (k / 16 % 2) + 128 * (k % 16 / 8) + 8 * (k % 8), 0] : Fin 3 → ℕ) a
    + S1x8x256.size a ≤ S16x256x256.size a := by
  intro a; fin_cases a
  · show k / 32 % 4 + 4 * (n % 4) + 1 ≤ 16; omega
  · show 64 * (k / 16 % 2) + 128 * (k % 16 / 8) + 8 * (k % 8) + 8 ≤ 256; omega
  · show 0 + 256 ≤ 256; omega

/-- The eight sublanes of plane `j + 4 n` which step `k` updates. -/
abbrev rows (k n : ℕ) : Rect S16x256x256 :=
  Rect.unit (s := S16x256x256) ![k / 32 % 4 + 4 * (n % 4), 64 * (k / 16 % 2) + 128 * (k % 16 / 8) + 8 * (k % 8), 0] S1x8x256.size (inb_rows k n)

variable (m7 : Memref sig .tc .vmem S16x256x256 .f32)

/-- What step `k` reads of plane `j + 4 n`. -/
def zin (k n : ℕ) (L : List (View.Piece (Elt F) S16x256x256 .f32)) : FVec F S8x256 .f32 :=
  shapeCast S8x256 (m7.view.readCov L (rows k n).toLoadRect : Vec F S1x8x256 .f32) shapeCasts_S1x8x256_S8x256

/-- What step `k` computes for plane `j + 4 n`. -/
def zout (k n : ℕ) (L : List (View.Piece (Elt F) S16x256x256 .f32)) : FVec F S8x256 .f32 :=
  radix4 n (zin m7 k 0 L) (zin m7 k 1 L) (zin m7 k 2 L) (zin m7 k 3 L)

/-- The stores of step `k`. -/
def step (k : ℕ) (L : List (View.Piece (Elt F) S16x256x256 .f32)) : List (View.Piece (Elt F) S16x256x256 .f32) :=
  ⟨rows k 3, (shapeCast S1x8x256 (zout m7 k 3 L) shapeCasts_S8x256_S1x8x256 : FVec F S1x8x256 .f32)⟩ ::
    ⟨rows k 2, (shapeCast S1x8x256 (zout m7 k 2 L) shapeCasts_S8x256_S1x8x256 : FVec F S1x8x256 .f32)⟩ ::
    ⟨rows k 1, (shapeCast S1x8x256 (zout m7 k 1 L) shapeCasts_S8x256_S1x8x256 : FVec F S1x8x256 .f32)⟩ ::
    ⟨rows k 0, (shapeCast S1x8x256 (zout m7 k 0 L) shapeCasts_S8x256_S1x8x256 : FVec F S1x8x256 .f32)⟩ :: L

/-- The stores into the plane buffer up to step `k`. -/
def xs : ℕ → List (View.Piece (Elt F) S16x256x256 .f32)
  | 0 => base H W 4
  | k + 1 => step m7 k (xs k)

/-- The running maximum of the magnitudes in plane `j + 4 n` after the steps before `k`: it starts anew every sixteen steps. -/
def acc (n : ℕ) : ℕ → FVec F S8x256 .f32
  | 0 => absf (zout m7 0 n (xs H W m7 0))
  | k + 1 => if k % 16 = 0 then absf (zout m7 k n (xs H W m7 k)) else maximumf (acc n k) (absf (zout m7 k n (xs H W m7 k)))

theorem inb_max (i n : ℕ) : ∀ a, (![2 * (i / 2 % 4 + 4 * (n % 4)) + i % 2, 0, 0] : Fin 3 → ℕ) a + S1x8x256.size a ≤ S32x8x256.size a := by
  intro a; fin_cases a
  · show 2 * (i / 2 % 4 + 4 * (n % 4)) + i % 2 + 1 ≤ 32; omega
  · show 0 + 8 ≤ 8; omega
  · show 0 + 256 ≤ 256; omega

/-- The maxima of the group `i % 2` of plane `i / 2 + 4 n`. -/
abbrev maxrow (i n : ℕ) : Rect S32x8x256 := Rect.unit (s := S32x8x256) ![2 * (i / 2 % 4 + 4 * (n % 4)) + i % 2, 0, 0] S1x8x256.size (inb_max i n)

/-- Four groups' maxima stored. -/
def mstep (i : ℕ) (m0 m1 m2 m3 : FVec F S8x256 .f32) (M : List (View.Piece (Elt F) S32x8x256 .f32)) : List (View.Piece (Elt F) S32x8x256 .f32) :=
  ⟨maxrow i 3, (shapeCast S1x8x256 m3 shapeCasts_S8x256_S1x8x256 : FVec F S1x8x256 .f32)⟩ ::
    ⟨maxrow i 2, (shapeCast S1x8x256 m2 shapeCasts_S8x256_S1x8x256 : FVec F S1x8x256 .f32)⟩ ::
    ⟨maxrow i 1, (shapeCast S1x8x256 m1 shapeCasts_S8x256_S1x8x256 : FVec F S1x8x256 .f32)⟩ ::
    ⟨maxrow i 0, (shapeCast S1x8x256 m0 shapeCasts_S8x256_S1x8x256 : FVec F S1x8x256 .f32)⟩ :: M

/-- The stores into the maxima buffer, four per sixteen steps. -/
def ms : ℕ → List (View.Piece (Elt F) S32x8x256 .f32)
  | 0 => []
  | i + 1 => mstep i (acc H W m7 0 (16 * i + 16)) (acc H W m7 1 (16 * i + 16)) (acc H W m7 2 (16 * i + 16)) (acc H W m7 3 (16 * i + 16)) (ms i)

/-! ## The codes -/

theorem inb_half (h b g : ℕ) : ∀ a, (![b % 16, 128 * (h % 2) + 64 * (g % 2), 0] : Fin 3 → ℕ) a + S1x64x256.size a ≤ S16x256x256.size a := by
  intro a; fin_cases a
  · show b % 16 + 1 ≤ 16; omega
  · show 128 * (h % 2) + 64 * (g % 2) + 64 ≤ 256; omega
  · show 0 + 256 ≤ 256; omega

theorem inb_code (h b g : ℕ) : ∀ a, (![h % 2, 128 * (b % 16) + 64 * (g % 2), 0] : Fin 3 → ℕ) a + S1x64x256.size a ≤ S2x2048x256.size a := by
  intro a; fin_cases a
  · show h % 2 + 1 ≤ 2; omega
  · show 128 * (b % 16) + 64 * (g % 2) + 64 ≤ 2048; omega
  · show 0 + 256 ≤ 256; omega

theorem inb_inv (b g : ℕ) : ∀ a, (![2 * (b % 16) + g % 2, 0] : Fin 2 → ℕ) a + S1x256.size a ≤ S32x256.size a := by
  intro a; fin_cases a
  · show 2 * (b % 16) + g % 2 + 1 ≤ 32; omega
  · show 0 + 256 ≤ 256; omega

/-- The 64 channels of parity `h` of group `g` of plane `b`, in the plane buffer; -/
abbrev half (h b g : ℕ) : Rect S16x256x256 :=
  Rect.unit (s := S16x256x256) ![b % 16, 128 * (h % 2) + 64 * (g % 2), 0] S1x64x256.size (inb_half h b g)
/-- the place of their codes; -/
abbrev code (h b g : ℕ) : Rect S2x2048x256 :=
  Rect.unit (s := S2x2048x256) ![h % 2, 128 * (b % 16) + 64 * (g % 2), 0] S1x64x256.size (inb_code h b g)
/-- the reciprocals of the group's scales. -/
abbrev invrow (b g : ℕ) : Rect S32x256 := Rect.unit (s := S32x256) ![2 * (b % 16) + g % 2, 0] S1x256.size (inb_inv b g)

/-- Codes of 64 channels: times the reciprocal scale, rounded, clamped to -7 … 7. -/
def codePay (v : Vec F S1x256 .f32) (x : Vec F S1x64x256 .f32) : FVec F S1x64x256 .bf16 :=
  shapeCast S1x64x256 (minimumf (maximumf
      (truncf .bf16 (roundeven (mulf (shapeCast S64x256 x shapeCasts_S1x64x256_S64x256) (broadcastTo S64x256 v broadcasts_S1x256_S64x256))) bitsLt_bf16_f32)
      (broadcast S64x256 (Scalar.ofBits .bf16 0xC0E0#16))) (broadcast S64x256 (Scalar.ofBits .bf16 0x40E0#16)))
    shapeCasts_S64x256_S1x64x256

variable (m8 : Memref sig .tc .vmem S2x2048x256 .bf16) (m9 : Memref sig .tc .vmem S32x8x256 .f32) (m10 : Memref sig .tc .vmem S32x256 .f32)

/-- The maxima buffer read whole. -/
def maxAll (M : List (View.Piece (Elt F) S32x8x256 .f32)) : Vec F S32x8x256 .f32 :=
  m9.view.readCov M (Rect.unit (s := S32x8x256) ![0, 0, 0] S32x8x256.size inb_S32x8x256_S32x8x256_0_0_0).toLoadRect

/-- The reciprocal scales stored. -/
def invs (M : List (View.Piece (Elt F) S32x8x256 .f32)) : List (View.Piece (Elt F) S32x256 .f32) :=
  [⟨Rect.unit (s := S32x256) ![0, 0] S32x256.size inb_S32x256_S32x256_0_0, (k0_pay2663 (maxAll m9 M) : FVec F S32x256 .f32)⟩]

/-- The scales stored. -/
def scs (M : List (View.Piece (Elt F) S32x8x256 .f32)) : List (View.Piece (Elt F) S256x32 .f32) :=
  [⟨Rect.unit (s := S256x32) ![0, 0] S256x32.size inb_S256x32_S256x32_0_0, (k0_pay2664 (maxAll m9 M) : FVec F S256x32 .f32)⟩]

/-- The codes stored, 64 channels at a time, given the plane buffer's and the reciprocal scales' stores. -/
def cs (L : List (View.Piece (Elt F) S16x256x256 .f32)) (I : List (View.Piece (Elt F) S32x256 .f32)) : ℕ → List (View.Piece (Elt F) S2x2048x256 .bf16)
  | 0 => []
  | i + 1 => ⟨code (i / 2) (i / 4) i, codePay (m10.view.readCov I (invrow (i / 4) i).toLoadRect) (m7.view.readCov L (half (i / 2) (i / 4) i).toLoadRect)⟩ ::
      cs L I i

/-! ## Packing two codes to a byte and four bytes to a word -/

theorem inb_ccols (h n : ℕ) : ∀ a, (![h % 2, 256 * (n % 8), 0] : Fin 3 → ℕ) a + S1x256x256.size a ≤ S2x2048x256.size a := by
  intro a; fin_cases a
  · show h % 2 + 1 ≤ 2; omega
  · show 256 * (n % 8) + 256 ≤ 2048; omega
  · show 0 + 256 ≤ 256; omega

theorem inb_bytes (n z : ℕ) : ∀ a, (![32 * (z % 8), 256 * (n % 8)] : Fin 2 → ℕ) a + S32x256.size a ≤ S256x2048.size a := by
  intro a; fin_cases a
  · show 32 * (z % 8) + 32 ≤ 256; omega
  · show 256 * (n % 8) + 256 ≤ 2048; omega

theorem slices_word (r : ℕ) (hr : r ≤ 120) : S128x256.Slices ![r, 0] S8x256 :=
  ⟨rfl, fun a => by
    fin_cases a
    · show r + 8 ≤ 128; omega
    · show 0 + 256 ≤ 256; omega⟩

/-- The codes of parity `h` of 256 byte columns; -/
abbrev ccols (h n : ℕ) : Rect S2x2048x256 := Rect.unit (s := S2x2048x256) ![h % 2, 256 * (n % 8), 0] S1x256x256.size (inb_ccols h n)
/-- 32 rows of those columns in the result. -/
abbrev bytes (n z : ℕ) : Rect S256x2048 := Rect.unit (s := S256x2048) ![32 * (z % 8), 256 * (n % 8)] S32x256.size (inb_bytes n z)

/-- A packing matrix times the codes. -/
def pdot (P : Vec F S1x128x256 .bf16) (c : Vec F S1x256x256 .bf16) : FVec F S128x256 .f32 :=
  matmul dot_S128x256_S256x256_S128x256_1_1_0_0_n_n none (shapeCast S128x256 P shapeCasts_S1x128x256_S128x256)
    (shapeCast S256x256 c shapeCasts_S1x256x256_S256x256) (constant S128x256 .f32 0x00000000#32)

/-- Half words: both parities' codes times their packing matrices. -/
def halves (P0 P1 : Vec F S1x128x256 .bf16) (c0 c1 : Vec F S1x256x256 .bf16) : FVec F S128x256 .f32 := addf (pdot P0 c0) (pdot P1 c1)

/-- Eight half words as integers, biased. -/
def biased (f : FVec F S128x256 .f32) (r : ℕ) (hr : r ≤ 120) : IVec S8x256 32 :=
  addi (fptosi 32 (extractStridedSlice S8x256 ![r, 0] f (slices_word r hr))) (broadcast S8x256 1262520456#32)

/-- The bytes of eight words. -/
def bytePay (f : FVec F S128x256 .f32) (z : ℕ) : IVec S32x256 8 :=
  bitcast S32x256 8 (xori (xori (biased f (16 * (z % 8)) (by omega)) (shli (biased f (16 * (z % 8) + 8) (by omega)) (broadcast S8x256 16#32)))
    (broadcast S8x256 3284699272#32)) bitcasts_S8x256_w32_S32x256_w8

/-- The bytes stored, 32 rows by 256 columns at a time. -/
def ws (P0 P1 : Vec F S1x128x256 .bf16) (C : List (View.Piece (Elt F) S2x2048x256 .bf16)) : ℕ → List (View.Piece (Elt F) S256x2048 .i8)
  | 0 => []
  | i + 1 => ⟨bytes (i / 8) i, bytePay (halves P0 P1 (m8.view.readCov C (ccols 0 (i / 8)).toLoadRect) (m8.view.readCov C (ccols 1 (i / 8)).toLoadRect)) i⟩ ::
      ws P0 P1 C i

/-! ## The first point's matrices -/

theorem inb_sign (b : ℕ) : ∀ a, (![b % 32, 0] : Fin 2 → ℕ) a + S1x128.size a ≤ S32x128.size a := by
  intro a; fin_cases a
  · show b % 32 + 1 ≤ 32; omega
  · show 0 + 128 ≤ 128; omega

/-- 128 signs. -/
abbrev signrow (b : ℕ) : Rect S32x128 := Rect.unit (s := S32x128) ![b % 32, 0] S1x128.size (inb_sign b)

/-- A sign matrix: the scaled Hadamard matrix with its columns multiplied by 256 signs. -/
def hsPay (s0 s1 : Vec F S1x128 .f32) : FVec F S1x256x256 .bf16 :=
  shapeCast S1x256x256 (truncf .bf16 (mulf (k0_pay2 (F := F)) (broadcastTo S256x256
    (concatenate S1x256 1 [⟨S1x128, shapeCast S1x128 s0 shapeCasts_S1x128_S1x128⟩, ⟨S1x128, shapeCast S1x128 s1 shapeCasts_S1x128_S1x128⟩]
      concatenates_S1x128_S1x128_S1x256_d1) broadcasts_S1x256_S256x256)) bitsLt_bf16_f32) shapeCasts_S256x256_S1x256x256

/-- The sign matrices stored, given the 128-sign rows. -/
def hsL (S : ℕ → Vec F S1x128 .f32) : ℕ → List (View.Piece (Elt F) S16x256x256 .bf16)
  | 0 => []
  | b + 1 => ⟨plane b, hsPay (S (2 * b)) (S (2 * b + 1))⟩ :: hsL S b

/-- The selection matrix both packing matrices are multiples of. -/
def selV : FVec F S128x256 .f32 :=
  k0_pay24 (iota .tc S128x256 32 [0] iota_S128x256_d0_w32) (iota .tc S128x256 32 [1] iota_S128x256_d1_w32) k0_pay22 k0_pay23 4#32

theorem inb_pack (h : ℕ) : ∀ a, (![h % 2, 0, 0] : Fin 3 → ℕ) a + S1x128x256.size a ≤ S2x128x256.size a := by
  intro a; fin_cases a
  · show h % 2 + 1 ≤ 2; omega
  · show 0 + 128 ≤ 128; omega
  · show 0 + 256 ≤ 256; omega

/-- Packing matrix `h` of two. -/
abbrev pack (h : ℕ) : Rect S2x128x256 := Rect.unit (s := S2x128x256) ![h % 2, 0, 0] S1x128x256.size (inb_pack h)

/-- The two packing matrices stored. -/
def packL : List (View.Piece (Elt F) S2x128x256 .bf16) :=
  [⟨pack 1, (shapeCast S1x128x256 (truncf .bf16 (mulf (selV (F := F)) (broadcast S128x256 (Scalar.ofBits .f32 0x41800000#32))) bitsLt_bf16_f32)
      shapeCasts_S128x256_S1x128x256 : FVec F S1x128x256 .bf16)⟩,
    ⟨pack 0, (shapeCast S1x128x256 (truncf .bf16 (selV (F := F)) bitsLt_bf16_f32) shapeCasts_S128x256_S1x128x256 : FVec F S1x128x256 .bf16)⟩]

end Cert.KernelIdeal.Body

end
-- ==== Proof.Match.lean ====
/- The lists of stores the kernel's run found at a grid point are the closed lists of Blocks.lean. The two in-place steps and
   their running maxima are matched one step at a time, from the last store back to the first, by three lemmas. -/
module

public import proofs.«01_k».proof.Proof.Gen.KernelIdeal.Frame
public import proofs.«01_k».proof.Proof.Blocks

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]
variable (H : ℕ → Vec F S1x256x256 .bf16) (W : ℕ → Vec F S256x256 .bf16) (m7 : Memref sig .tc .vmem S16x256x256 .f32)

/-- The plane buffer's and the maxima buffer's stores after `i` rounds of sixteen steps. -/
structure Round (i : ℕ) (L : List (View.Piece (Elt F) S16x256x256 .f32)) (M : List (View.Piece (Elt F) S32x8x256 .f32)) : Prop where
  hL : L = xs H W m7 (16 * i)
  hM : M = ms H W m7 i

/-- `s` steps into round `i`, with the running maxima. -/
structure Mid (i s : ℕ) (L : List (View.Piece (Elt F) S16x256x256 .f32)) (a0 a1 a2 a3 : FVec F S8x256 .f32)
    (M : List (View.Piece (Elt F) S32x8x256 .f32)) : Prop where
  hs : s < 16
  hL : L = xs H W m7 (16 * i + s)
  h0 : a0 = acc H W m7 0 (16 * i + s)
  h1 : a1 = acc H W m7 1 (16 * i + s)
  h2 : a2 = acc H W m7 2 (16 * i + s)
  h3 : a3 = acc H W m7 3 (16 * i + s)
  hM : M = ms H W m7 i

variable {H W m7}

theorem round_zero : Round H W m7 0 (base H W 4) [] := ⟨rfl, rfl⟩

/-- The first step of a round. -/
theorem mid_first {i : ℕ} {L : List (View.Piece (Elt F) S16x256x256 .f32)} {M : List (View.Piece (Elt F) S32x8x256 .f32)} (h : Round H W m7 i L M) :
    Mid H W m7 i 1 (step m7 (16 * i + 0) L) (absf (zout m7 (16 * i + 0) 0 L)) (absf (zout m7 (16 * i + 0) 1 L)) (absf (zout m7 (16 * i + 0) 2 L))
      (absf (zout m7 (16 * i + 0) 3 L)) M := by
  obtain ⟨rfl, rfl⟩ := h
  have e : ∀ n, absf (zout m7 (16 * i) n (xs H W m7 (16 * i))) = acc H W m7 n (16 * i + 1) := fun n => (if_pos (by omega)).symm
  exact ⟨by omega, rfl, e 0, e 1, e 2, e 3, rfl⟩

theorem acc_next (i s n : ℕ) (hs : 0 < s ∧ s < 16) :
    maximumf (acc H W m7 n (16 * i + s)) (absf (zout m7 (16 * i + s) n (xs H W m7 (16 * i + s)))) = acc H W m7 n (16 * i + (s + 1)) :=
  (if_neg (show ¬(16 * i + s) % 16 = 0 by omega)).symm

/-- A middle step of a round. -/
theorem mid_next {i s : ℕ} {L : List (View.Piece (Elt F) S16x256x256 .f32)} {a0 a1 a2 a3 : FVec F S8x256 .f32}
    {M : List (View.Piece (Elt F) S32x8x256 .f32)} (h : Mid H W m7 i (s + 1) L a0 a1 a2 a3 M) (hs : s + 2 < 16) :
    Mid H W m7 i (s + 2) (step m7 (16 * i + (s + 1)) L) (maximumf a0 (absf (zout m7 (16 * i + (s + 1)) 0 L)))
      (maximumf a1 (absf (zout m7 (16 * i + (s + 1)) 1 L))) (maximumf a2 (absf (zout m7 (16 * i + (s + 1)) 2 L)))
      (maximumf a3 (absf (zout m7 (16 * i + (s + 1)) 3 L))) M := by
  obtain ⟨_, rfl, rfl, rfl, rfl, rfl, rfl⟩ := h
  have e := fun n => acc_next (H := H) (W := W) (m7 := m7) i (s + 1) n (by omega)
  exact ⟨hs, rfl, e 0, e 1, e 2, e 3, rfl⟩

/-- The last step of a round, after which the maxima are stored. -/
theorem round_next {i : ℕ} {L : List (View.Piece (Elt F) S16x256x256 .f32)} {a0 a1 a2 a3 : FVec F S8x256 .f32}
    {M : List (View.Piece (Elt F) S32x8x256 .f32)} (h : Mid H W m7 i 15 L a0 a1 a2 a3 M) :
    Round H W m7 (i + 1) (step m7 (16 * i + 15) L) (mstep i (maximumf a0 (absf (zout m7 (16 * i + 15) 0 L)))
      (maximumf a1 (absf (zout m7 (16 * i + 15) 1 L))) (maximumf a2 (absf (zout m7 (16 * i + 15) 2 L)))
      (maximumf a3 (absf (zout m7 (16 * i + 15) 3 L))) M) := by
  obtain ⟨_, rfl, rfl, rfl, rfl, rfl, rfl⟩ := h
  have e := fun n => acc_next (H := H) (W := W) (m7 := m7) i 15 n (by omega)
  refine ⟨rfl, ?_⟩
  rw [e 0, e 1, e 2, e 3]
  rfl

theorem assemble {m8 : Memref sig .tc .vmem S2x2048x256 .bf16} {m9 : Memref sig .tc .vmem S32x8x256 .f32} {m10 : Memref sig .tc .vmem S32x256 .f32}
    {P0 P1 : Vec F S1x128x256 .bf16} {i : ℕ} {L : List (View.Piece (Elt F) S16x256x256 .f32)} {M : List (View.Piece (Elt F) S32x8x256 .f32)}
    {I : List (View.Piece (Elt F) S32x256 .f32)} {C : List (View.Piece (Elt F) S2x2048x256 .bf16)} {B : List (View.Piece (Elt F) S256x2048 .i8)}
    (h : Round H W m7 i L M) (hI : I = invs m9 M) (hC : C = cs m7 m10 L I 64) (hB : B = ws m8 P0 P1 C 64) :
    B = ws m8 P0 P1 (cs m7 m10 (xs H W m7 (16 * i)) (invs m9 (ms H W m7 i)) 64) 64 := by
  obtain ⟨rfl, rfl⟩ := h
  subst hI hC hB
  rfl

variable (c : Dev nD) (i : grid0.Coords) (arg1 : Memref sig .tc .vmem S256x4096 .bf16) (harg1 : arg1.IsWhole) (arg2 : Memref sig .tc .vmem S32x128 .f32) (harg2 : arg2.IsWhole) (arg3 : Memref sig .tc .vmem S256x2048 .i8) (harg3 : arg3.IsWhole) (arg4 : Memref sig .tc .vmem S256x32 .f32) (harg4 : arg4.IsWhole) (arg5 : Memref sig .tc .vmem S16x256x256 .bf16) (harg5 : arg5.IsWhole) (arg6 : Memref sig .tc .vmem S2x128x256 .bf16) (harg6 : arg6.IsWhole) (arg7 : Memref sig .tc .vmem S16x256x256 .f32) (harg7 : arg7.IsWhole) (arg8 : Memref sig .tc .vmem S2x2048x256 .bf16) (harg8 : arg8.IsWhole) (arg9 : Memref sig .tc .vmem S32x8x256 .f32) (harg9 : arg9.IsWhole) (arg10 : Memref sig .tc .vmem S32x256 .f32) (harg10 : arg10.IsWhole)

/-- The weights' column blocks as read. -/
def Wr (x0 : Vec F S256x4096 .bf16) (b : ℕ) : Vec F S256x256 .bf16 := View.readAt (Elt F) arg1.view (cols b).toLoadRect (harg1.unread x0)

/-- The sign matrices as read at a later point. -/
def HrB (xs0 : Vec F S16x256x256 .bf16) (b : ℕ) : Vec F S1x256x256 .bf16 := View.readAt (Elt F) arg5.view (plane b).toLoadRect (harg5.unread xs0)

/-- The packing matrices as read at a later point. -/
def PrB (xs1 : Vec F S2x128x256 .bf16) (h : ℕ) : Vec F S1x128x256 .bf16 := View.readAt (Elt F) arg6.view (pack h).toLoadRect (harg6.unread xs1)

/-- The signs as read at the first point. -/
def Sr (x1 : Vec F S32x128 .f32) (b : ℕ) : Vec F S1x128 .f32 := View.readAt (Elt F) arg2.view (signrow b).toLoadRect (harg2.unread x1)

/-- The sign matrices as read at the first point; -/
def HrA (x1 : Vec F S32x128 .f32) (b : ℕ) : Vec F S1x256x256 .bf16 := arg5.view.readCov (hsL (Sr arg2 harg2 x1) 16) (plane b).toLoadRect
/-- the packing matrices. -/
def PrA (h : ℕ) : Vec F S1x128x256 .bf16 := arg6.view.readCov packL (pack h).toLoadRect

set_option maxHeartbeats 0 in
theorem round_B (hc0 : ¬cond0_0 i) (x0 : Vec F S256x4096 .bf16) (x1 : Vec F S32x128 .f32) (xs0 : Vec F S16x256x256 .bf16) (xs1 : Vec F S2x128x256 .bf16) :
    Round (HrB arg5 harg5 xs0) (Wr arg1 harg1 x0) arg7 8
      (kernelRun0_B c i arg1 harg1 arg2 harg2 arg3 harg3 arg4 harg4 arg5 harg5 arg6 harg6 arg7 harg7 arg8 harg8 arg9 harg9 arg10 harg10 hc0 x0 x1 xs0 xs1).2.2.2.2.1
      (kernelRun0_B c i arg1 harg1 arg2 harg2 arg3 harg3 arg4 harg4 arg5 harg5 arg6 harg6 arg7 harg7 arg8 harg8 arg9 harg9 arg10 harg10 hc0 x0 x1 xs0 xs1).2.2.2.2.2.2.1 := by
  iterate 8
    refine round_next ?_
    iterate 14 refine mid_next ?_ (by decide)
    refine mid_first ?_
  exact round_zero

theorem invs_B (hc0 : ¬cond0_0 i) (x0 : Vec F S256x4096 .bf16) (x1 : Vec F S32x128 .f32) (xs0 : Vec F S16x256x256 .bf16) (xs1 : Vec F S2x128x256 .bf16) :
    (kernelRun0_B c i arg1 harg1 arg2 harg2 arg3 harg3 arg4 harg4 arg5 harg5 arg6 harg6 arg7 harg7 arg8 harg8 arg9 harg9 arg10 harg10 hc0 x0 x1 xs0 xs1).2.2.2.2.2.2.2.1 = invs arg9 (kernelRun0_B c i arg1 harg1 arg2 harg2 arg3 harg3 arg4 harg4 arg5 harg5 arg6 harg6 arg7 harg7 arg8 harg8 arg9 harg9 arg10 harg10 hc0 x0 x1 xs0 xs1).2.2.2.2.2.2.1 := rfl

theorem codes_B (hc0 : ¬cond0_0 i) (x0 : Vec F S256x4096 .bf16) (x1 : Vec F S32x128 .f32) (xs0 : Vec F S16x256x256 .bf16) (xs1 : Vec F S2x128x256 .bf16) :
    (kernelRun0_B c i arg1 harg1 arg2 harg2 arg3 harg3 arg4 harg4 arg5 harg5 arg6 harg6 arg7 harg7 arg8 harg8 arg9 harg9 arg10 harg10 hc0 x0 x1 xs0 xs1).2.2.2.2.2.1 = cs arg7 arg10 (kernelRun0_B c i arg1 harg1 arg2 harg2 arg3 harg3 arg4 harg4 arg5 harg5 arg6 harg6 arg7 harg7 arg8 harg8 arg9 harg9 arg10 harg10 hc0 x0 x1 xs0 xs1).2.2.2.2.1 (kernelRun0_B c i arg1 harg1 arg2 harg2 arg3 harg3 arg4 harg4 arg5 harg5 arg6 harg6 arg7 harg7 arg8 harg8 arg9 harg9 arg10 harg10 hc0 x0 x1 xs0 xs1).2.2.2.2.2.2.2.1 64 := rfl

theorem bytes_B (hc0 : ¬cond0_0 i) (x0 : Vec F S256x4096 .bf16) (x1 : Vec F S32x128 .f32) (xs0 : Vec F S16x256x256 .bf16) (xs1 : Vec F S2x128x256 .bf16) :
    (kernelRun0_B c i arg1 harg1 arg2 harg2 arg3 harg3 arg4 harg4 arg5 harg5 arg6 harg6 arg7 harg7 arg8 harg8 arg9 harg9 arg10 harg10 hc0 x0 x1 xs0 xs1).1 = ws arg8 (PrB arg6 harg6 xs1 0) (PrB arg6 harg6 xs1 1) (kernelRun0_B c i arg1 harg1 arg2 harg2 arg3 harg3 arg4 harg4 arg5 harg5 arg6 harg6 arg7 harg7 arg8 harg8 arg9 harg9 arg10 harg10 hc0 x0 x1 xs0 xs1).2.2.2.2.2.1 64 := rfl

/-- The bytes' stores. -/
theorem out_bytes_B (hc0 : ¬cond0_0 i) (x0 : Vec F S256x4096 .bf16) (x1 : Vec F S32x128 .f32) (xs0 : Vec F S16x256x256 .bf16) (xs1 : Vec F S2x128x256 .bf16) :
    (kernelRun0_B c i arg1 harg1 arg2 harg2 arg3 harg3 arg4 harg4 arg5 harg5 arg6 harg6 arg7 harg7 arg8 harg8 arg9 harg9 arg10 harg10 hc0 x0 x1 xs0 xs1).1 = ws arg8 (PrB arg6 harg6 xs1 0) (PrB arg6 harg6 xs1 1) (cs arg7 arg10 (xs (HrB arg5 harg5 xs0) (Wr arg1 harg1 x0) arg7 128) (invs arg9 (ms (HrB arg5 harg5 xs0) (Wr arg1 harg1 x0) arg7 8)) 64) 64 :=
  assemble (round_B c i arg1 harg1 arg2 harg2 arg3 harg3 arg4 harg4 arg5 harg5 arg6 harg6 arg7 harg7 arg8 harg8 arg9 harg9 arg10 harg10 hc0 x0 x1 xs0 xs1) (invs_B c i arg1 harg1 arg2 harg2 arg3 harg3 arg4 harg4 arg5 harg5 arg6 harg6 arg7 harg7 arg8 harg8 arg9 harg9 arg10 harg10 hc0 x0 x1 xs0 xs1) (codes_B c i arg1 harg1 arg2 harg2 arg3 harg3 arg4 harg4 arg5 harg5 arg6 harg6 arg7 harg7 arg8 harg8 arg9 harg9 arg10 harg10 hc0 x0 x1 xs0 xs1) (bytes_B c i arg1 harg1 arg2 harg2 arg3 harg3 arg4 harg4 arg5 harg5 arg6 harg6 arg7 harg7 arg8 harg8 arg9 harg9 arg10 harg10 hc0 x0 x1 xs0 xs1)

/-- The scales' stores. -/
theorem out_scales_B (hc0 : ¬cond0_0 i) (x0 : Vec F S256x4096 .bf16) (x1 : Vec F S32x128 .f32) (xs0 : Vec F S16x256x256 .bf16) (xs1 : Vec F S2x128x256 .bf16) :
    (kernelRun0_B c i arg1 harg1 arg2 harg2 arg3 harg3 arg4 harg4 arg5 harg5 arg6 harg6 arg7 harg7 arg8 harg8 arg9 harg9 arg10 harg10 hc0 x0 x1 xs0 xs1).2.1 = scs arg9 (ms (HrB arg5 harg5 xs0) (Wr arg1 harg1 x0) arg7 8) :=
  congrArg (scs arg9) (round_B c i arg1 harg1 arg2 harg2 arg3 harg3 arg4 harg4 arg5 harg5 arg6 harg6 arg7 harg7 arg8 harg8 arg9 harg9 arg10 harg10 hc0 x0 x1 xs0 xs1).hM

theorem hs_A (hc0 : cond0_0 i) (x0 : Vec F S256x4096 .bf16) (x1 : Vec F S32x128 .f32) :
    (kernelRun0_A c i arg1 harg1 arg2 harg2 arg3 harg3 arg4 harg4 arg5 harg5 arg6 harg6 arg7 harg7 arg8 harg8 arg9 harg9 arg10 harg10 hc0 x0 x1).2.2.1 = hsL (Sr arg2 harg2 x1) 16 := rfl

theorem pack_A (hc0 : cond0_0 i) (x0 : Vec F S256x4096 .bf16) (x1 : Vec F S32x128 .f32) :
    (kernelRun0_A c i arg1 harg1 arg2 harg2 arg3 harg3 arg4 harg4 arg5 harg5 arg6 harg6 arg7 harg7 arg8 harg8 arg9 harg9 arg10 harg10 hc0 x0 x1).2.2.2.1 = packL := rfl

set_option maxHeartbeats 0 in
theorem round_A (hc0 : cond0_0 i) (x0 : Vec F S256x4096 .bf16) (x1 : Vec F S32x128 .f32) :
    Round (HrA arg2 harg2 arg5 x1) (Wr arg1 harg1 x0) arg7 8
      (kernelRun0_A c i arg1 harg1 arg2 harg2 arg3 harg3 arg4 harg4 arg5 harg5 arg6 harg6 arg7 harg7 arg8 harg8 arg9 harg9 arg10 harg10 hc0 x0 x1).2.2.2.2.1
      (kernelRun0_A c i arg1 harg1 arg2 harg2 arg3 harg3 arg4 harg4 arg5 harg5 arg6 harg6 arg7 harg7 arg8 harg8 arg9 harg9 arg10 harg10 hc0 x0 x1).2.2.2.2.2.2.1 := by
  iterate 8
    refine round_next ?_
    iterate 14 refine mid_next ?_ (by decide)
    refine mid_first ?_
  exact round_zero

theorem invs_A (hc0 : cond0_0 i) (x0 : Vec F S256x4096 .bf16) (x1 : Vec F S32x128 .f32) :
    (kernelRun0_A c i arg1 harg1 arg2 harg2 arg3 harg3 arg4 harg4 arg5 harg5 arg6 harg6 arg7 harg7 arg8 harg8 arg9 harg9 arg10 harg10 hc0 x0 x1).2.2.2.2.2.2.2.1 = invs arg9 (kernelRun0_A c i arg1 harg1 arg2 harg2 arg3 harg3 arg4 harg4 arg5 harg5 arg6 harg6 arg7 harg7 arg8 harg8 arg9 harg9 arg10 harg10 hc0 x0 x1).2.2.2.2.2.2.1 := rfl

theorem codes_A (hc0 : cond0_0 i) (x0 : Vec F S256x4096 .bf16) (x1 : Vec F S32x128 .f32) :
    (kernelRun0_A c i arg1 harg1 arg2 harg2 arg3 harg3 arg4 harg4 arg5 harg5 arg6 harg6 arg7 harg7 arg8 harg8 arg9 harg9 arg10 harg10 hc0 x0 x1).2.2.2.2.2.1 = cs arg7 arg10 (kernelRun0_A c i arg1 harg1 arg2 harg2 arg3 harg3 arg4 harg4 arg5 harg5 arg6 harg6 arg7 harg7 arg8 harg8 arg9 harg9 arg10 harg10 hc0 x0 x1).2.2.2.2.1 (kernelRun0_A c i arg1 harg1 arg2 harg2 arg3 harg3 arg4 harg4 arg5 harg5 arg6 harg6 arg7 harg7 arg8 harg8 arg9 harg9 arg10 harg10 hc0 x0 x1).2.2.2.2.2.2.2.1 64 := rfl

theorem bytes_A (hc0 : cond0_0 i) (x0 : Vec F S256x4096 .bf16) (x1 : Vec F S32x128 .f32) :
    (kernelRun0_A c i arg1 harg1 arg2 harg2 arg3 harg3 arg4 harg4 arg5 harg5 arg6 harg6 arg7 harg7 arg8 harg8 arg9 harg9 arg10 harg10 hc0 x0 x1).1 = ws arg8 (PrA (F := F) arg6 0) (PrA (F := F) arg6 1) (kernelRun0_A c i arg1 harg1 arg2 harg2 arg3 harg3 arg4 harg4 arg5 harg5 arg6 harg6 arg7 harg7 arg8 harg8 arg9 harg9 arg10 harg10 hc0 x0 x1).2.2.2.2.2.1 64 := rfl

/-- The bytes' stores. -/
theorem out_bytes_A (hc0 : cond0_0 i) (x0 : Vec F S256x4096 .bf16) (x1 : Vec F S32x128 .f32) :
    (kernelRun0_A c i arg1 harg1 arg2 harg2 arg3 harg3 arg4 harg4 arg5 harg5 arg6 harg6 arg7 harg7 arg8 harg8 arg9 harg9 arg10 harg10 hc0 x0 x1).1 = ws arg8 (PrA (F := F) arg6 0) (PrA (F := F) arg6 1) (cs arg7 arg10 (xs (HrA arg2 harg2 arg5 x1) (Wr arg1 harg1 x0) arg7 128) (invs arg9 (ms (HrA arg2 harg2 arg5 x1) (Wr arg1 harg1 x0) arg7 8)) 64) 64 :=
  assemble (round_A c i arg1 harg1 arg2 harg2 arg3 harg3 arg4 harg4 arg5 harg5 arg6 harg6 arg7 harg7 arg8 harg8 arg9 harg9 arg10 harg10 hc0 x0 x1) (invs_A c i arg1 harg1 arg2 harg2 arg3 harg3 arg4 harg4 arg5 harg5 arg6 harg6 arg7 harg7 arg8 harg8 arg9 harg9 arg10 harg10 hc0 x0 x1) (codes_A c i arg1 harg1 arg2 harg2 arg3 harg3 arg4 harg4 arg5 harg5 arg6 harg6 arg7 harg7 arg8 harg8 arg9 harg9 arg10 harg10 hc0 x0 x1) (bytes_A c i arg1 harg1 arg2 harg2 arg3 harg3 arg4 harg4 arg5 harg5 arg6 harg6 arg7 harg7 arg8 harg8 arg9 harg9 arg10 harg10 hc0 x0 x1)

/-- The scales' stores. -/
theorem out_scales_A (hc0 : cond0_0 i) (x0 : Vec F S256x4096 .bf16) (x1 : Vec F S32x128 .f32) :
    (kernelRun0_A c i arg1 harg1 arg2 harg2 arg3 harg3 arg4 harg4 arg5 harg5 arg6 harg6 arg7 harg7 arg8 harg8 arg9 harg9 arg10 harg10 hc0 x0 x1).2.1 = scs arg9 (ms (HrA arg2 harg2 arg5 x1) (Wr arg1 harg1 x0) arg7 8) :=
  congrArg (scs arg9) (round_A c i arg1 harg1 arg2 harg2 arg3 harg3 arg4 harg4 arg5 harg5 arg6 harg6 arg7 harg7 arg8 harg8 arg9 harg9 arg10 harg10 hc0 x0 x1).hM

end Cert.KernelIdeal.Body

end
-- ==== Proof.Transform.lean ====
/- The fast transform over the extended reals.
   `trans n v` is `n` steps of the radix-2 transform, the step at distance `2^t` after the one at distance `2^(t-1)`.
   `mixed` is the kernel's way: a product with the 256-point sign matrix (1/64 and the random signs folded in), then four steps
   over the planes. `transform_eq`: on 4096 values both agree up to the factor 1/64, or both give infinities everywhere. -/
module

public import Idealize.ShloMosaic.PureOps.Ideal
public import Mathlib.Algebra.BigOperators.Intervals
public import Mathlib.Data.Nat.Bitwise

@[expose] public section

noncomputable section

namespace Cert.Fwht

open scoped BigOperators

/-- One radix-2 step at distance `h`. -/
def stage (h : ℕ) (v : ℕ → EReal) (i : ℕ) : EReal := if i / h % 2 = 0 then v i + v (i + h) else v (i - h) - v i

/-- The first `n` steps. -/
def trans : ℕ → (ℕ → EReal) → ℕ → EReal
  | 0, v => v
  | n + 1, v => stage (2 ^ n) (trans n v)

/-- The parity sign of the lowest `n` bits of `p`. -/
def sg : ℕ → ℕ → ℝ
  | 0, _ => 1
  | n + 1, p => sg n p * if p.testBit n then -1 else 1

/-- The 1/64 both programs multiply by. -/
def kappa : EReal := ((1 / 64 : ℝ) : EReal)

/-- The kernel's channel `c` of plane `b` before the four steps over planes. -/
def low (w s : ℕ → EReal) (c b : ℕ) : EReal :=
  ∑ k ∈ Finset.range 256, (((sg 8 (c &&& k) * (1 / 64) : ℝ) : EReal) * s (256 * b + k)) * w (256 * b + k)

/-- The kernel's transformed channel `256 b + c`. -/
def mixed (w s : ℕ → EReal) (c b : ℕ) : EReal := trans 4 (low w s c) b

/-! ## Over the reals -/

def stageR (h : ℕ) (v : ℕ → ℝ) (i : ℕ) : ℝ := if i / h % 2 = 0 then v i + v (i + h) else v (i - h) - v i

def transR : ℕ → (ℕ → ℝ) → ℕ → ℝ
  | 0, v => v
  | n + 1, v => stageR (2 ^ n) (transR n v)

theorem trans_coe (f : ℕ → ℝ) : ∀ (n i : ℕ), trans n (fun i => (f i : EReal)) i = (transR n f i : EReal)
  | 0, i => rfl
  | n + 1, i => by
    unfold trans transR stage stageR
    rw [trans_coe f n i, trans_coe f n (i + 2 ^ n), trans_coe f n (i - 2 ^ n)]
    split_ifs
    · exact (EReal.coe_add _ _).symm
    · exact (EReal.coe_sub _ _).symm

theorem transR_smul (a : ℝ) (f : ℕ → ℝ) : ∀ (n i : ℕ), transR n (fun i => a * f i) i = a * transR n f i
  | 0, i => rfl
  | n + 1, i => by
    unfold transR stageR
    rw [transR_smul a f n i, transR_smul a f n (i + 2 ^ n), transR_smul a f n (i - 2 ^ n)]
    split_ifs <;> ring

theorem sg_congr (n : ℕ) : ∀ (p q : ℕ), (∀ t < n, p.testBit t = q.testBit t) → sg n p = sg n q := by
  induction n with
  | zero => intro p q _; rfl
  | succ n ih =>
    intro p q h
    unfold sg
    rw [ih p q fun t ht => h t (by omega), h n (by omega)]

theorem testBit_eq_div (i t : ℕ) : i.testBit t = decide (i / 2 ^ t % 2 = 1) := by
  rw [Nat.testBit_eq_decide_div_mod_eq]

theorem testBit_low {n t : ℕ} (h : t < n) (i : ℕ) : (i % 2 ^ n).testBit t = i.testBit t := by
  rw [Nat.testBit_mod_two_pow, decide_eq_true h, Bool.true_and]

theorem coe_sum (s : Finset ℕ) (f : ℕ → ℝ) : ((∑ k ∈ s, f k : ℝ) : EReal) = ∑ k ∈ s, (f k : EReal) := by
  induction s using Finset.cons_induction with
  | empty => simp
  | cons a s ha ih => rw [Finset.sum_cons, Finset.sum_cons, EReal.coe_add, ih]

/-- `n` steps as a sum with signs, over the aligned block of `2^n` values. -/
theorem transR_eq_sum (f : ℕ → ℝ) : ∀ (n i : ℕ), transR n f i = ∑ k ∈ Finset.range (2 ^ n), sg n (i &&& k) * f (i / 2 ^ n * 2 ^ n + k)
  | 0, i => by simp [transR, sg]
  | n + 1, i => by
    have hP : 0 < 2 ^ n := Nat.two_pow_pos n
    have e2 : 2 ^ (n + 1) = 2 ^ n + 2 ^ n := by omega
    have hdd : i / 2 ^ (n + 1) = i / 2 ^ n / 2 := by rw [Nat.pow_succ, Nat.div_div_eq_div_mul]
    have key : ∀ (j : ℕ), (∀ t < n, j.testBit t = i.testBit t) → ∀ k, k < 2 ^ n → sg n (j &&& k) = sg n (i &&& k) := fun j hj k _ =>
      sg_congr n _ _ fun t ht => by rw [Nat.testBit_and, Nat.testBit_and, hj t ht]
    have hlo : ∀ k < 2 ^ n, sg (n + 1) (i &&& k) = sg n (i &&& k) := fun k hk => by
      have : (i &&& k).testBit n = false := by rw [Nat.testBit_and, Nat.testBit_lt_two_pow hk, Bool.and_false]
      show sg n _ * _ = _
      rw [this]; simp
    have hhi : ∀ k < 2 ^ n, sg (n + 1) (i &&& (2 ^ n + k)) = sg n (i &&& k) * if i / 2 ^ n % 2 = 0 then 1 else -1 := fun k hk => by
      have h1 : (2 ^ n + k).testBit n = true := by
        rw [Nat.testBit_two_pow_add_eq, Nat.testBit_lt_two_pow hk]; rfl
      have h2 : sg n (i &&& (2 ^ n + k)) = sg n (i &&& k) := sg_congr n _ _ fun t ht => by
        rw [Nat.testBit_and, Nat.testBit_and, Nat.testBit_two_pow_add_gt ht]
      show sg n _ * _ = _
      rw [h2, Nat.testBit_and, h1, Bool.and_true, testBit_eq_div]
      rcases Nat.mod_two_eq_zero_or_one (i / 2 ^ n) with h | h <;> simp [h]
    have hb : ∀ j, (∃ q, j = i + q * 2 ^ n ∨ i = j + q * 2 ^ n) → ∀ t < n, j.testBit t = i.testBit t := by
      rintro j ⟨q, hq⟩ t ht
      have hm : j % 2 ^ n = i % 2 ^ n := by
        rcases hq with rfl | rfl <;> simp
      rw [← testBit_low ht, hm, testBit_low ht]
    unfold transR stageR
    rw [e2, Finset.sum_range_add, Finset.sum_congr rfl fun k hk => by rw [hlo k (Finset.mem_range.1 hk)],
      Finset.sum_congr (s₁ := Finset.range (2 ^ n)) (f := fun k => sg (n + 1) (i &&& (2 ^ n + k)) * f (i / (2 ^ n + 2 ^ n) * (2 ^ n + 2 ^ n) + (2 ^ n + k))) rfl
        fun k hk => by rw [hhi k (Finset.mem_range.1 hk)]]
    have e3 : i / (2 ^ n + 2 ^ n) * (2 ^ n + 2 ^ n) = i / 2 ^ n / 2 * 2 * 2 ^ n := by rw [← e2, hdd]; ring
    rw [e3]
    rcases Nat.mod_two_eq_zero_or_one (i / 2 ^ n) with h | h
    · have e4 : i / 2 ^ n / 2 * 2 = i / 2 ^ n := by omega
      rw [if_pos h, if_pos h, transR_eq_sum f n i, transR_eq_sum f n (i + 2 ^ n), e4, Nat.add_div_right _ hP]
      congr 1
      refine Finset.sum_congr rfl fun k hk => ?_
      rw [key (i + 2 ^ n) (hb _ ⟨1, Or.inl (by ring)⟩) k (Finset.mem_range.1 hk), mul_one]
      congr 2
      ring
    · have hge : 2 ^ n ≤ i := by
        by_contra hlt
        rw [Nat.div_eq_of_lt (by omega)] at h
        omega
      have e5 : (i - 2 ^ n) / 2 ^ n = i / 2 ^ n - 1 := by
        have := Nat.add_div_right (i - 2 ^ n) hP
        rw [Nat.sub_add_cancel hge] at this
        exact (Nat.sub_eq_of_eq_add this).symm
      have e4 : i / 2 ^ n / 2 * 2 = i / 2 ^ n - 1 := by omega
      have e6 : i / 2 ^ n * 2 ^ n = (i / 2 ^ n - 1) * 2 ^ n + 2 ^ n := by
        obtain ⟨q, hq⟩ : ∃ q, i / 2 ^ n = q + 1 := ⟨i / 2 ^ n - 1, by omega⟩
        rw [hq]; simp; ring
      rw [if_neg (by omega), if_neg (by omega), transR_eq_sum f n i, transR_eq_sum f n (i - 2 ^ n), e4, e5, e6, sub_eq_add_neg, ← Finset.sum_neg_distrib]
      congr 1
      · refine Finset.sum_congr rfl fun k hk => ?_
        rw [key (i - 2 ^ n) (hb _ ⟨1, Or.inr (by omega)⟩) k (Finset.mem_range.1 hk)]
      · refine Finset.sum_congr rfl fun k hk => ?_
        rw [Nat.add_assoc]
        ring

/-! ## Eight steps within blocks of 256, the rest across them -/

theorem trans_split (v : ℕ → EReal) (c : ℕ) (hc : c < 256) : ∀ (n b : ℕ),
    trans (8 + n) v (256 * b + c) = trans n (fun b => trans 8 v (256 * b + c)) b
  | 0, b => rfl
  | n + 1, b => by
    have hP : 0 < 2 ^ n := Nat.two_pow_pos n
    have e : 2 ^ (8 + n) = 256 * 2 ^ n := by rw [Nat.pow_add]
    have e1 : (256 * b + c) / (256 * 2 ^ n) = b / 2 ^ n := by
      rw [← Nat.div_div_eq_div_mul]; congr 1; omega
    show stage (2 ^ (8 + n)) (trans (8 + n) v) (256 * b + c) = stage (2 ^ n) (trans n _) b
    unfold stage
    rw [e, e1, trans_split v c hc n b]
    split_ifs with h
    · have : 256 * b + c + 256 * 2 ^ n = 256 * (b + 2 ^ n) + c := by ring
      rw [this, trans_split v c hc n]
    · have hge : 2 ^ n ≤ b := by
        by_contra hlt
        rw [Nat.div_eq_of_lt (by omega)] at h
        omega
      have : 256 * b + c - 256 * 2 ^ n = 256 * (b - 2 ^ n) + c := by omega
      rw [this, trans_split v c hc n]

/-! ## Infinities spread -/

def Inf (x : EReal) : Prop := x = ⊤ ∨ x = ⊥

theorem Inf.add_left {x : EReal} (h : Inf x) (y : EReal) : Inf (x + y) := by
  rcases h with rfl | rfl
  · induction y with
    | bot => right; rfl
    | coe r => left; exact EReal.top_add_coe r
    | top => left; rfl
  · right; exact EReal.bot_add y

theorem Inf.neg {x : EReal} (h : Inf x) : Inf (-x) := by
  rcases h with rfl | rfl
  · right; rfl
  · left; rfl

theorem Inf.add_right {x : EReal} (h : Inf x) (y : EReal) : Inf (y + x) := by
  rw [add_comm]; exact h.add_left y

theorem Inf.mul_coe {x : EReal} (h : Inf x) {r : ℝ} (hr : r ≠ 0) : Inf (x * (r : EReal)) := by
  rcases lt_or_gt_of_ne hr with h0 | h0 <;> rcases h with rfl | rfl
  · right; exact EReal.top_mul_coe_of_neg h0
  · left; exact EReal.bot_mul_coe_of_neg h0
  · left; exact EReal.top_mul_coe_of_pos h0
  · right; exact EReal.bot_mul_coe_of_pos h0

theorem Inf.sum {s : Finset ℕ} {f : ℕ → EReal} {k : ℕ} (hk : k ∈ s) (h : Inf (f k)) : Inf (∑ i ∈ s, f i) := by
  rw [← Finset.add_sum_erase s f hk]; exact h.add_left _

theorem trans_inf (v : ℕ → EReal) (j : ℕ) (h : Inf (v j)) : ∀ (n i : ℕ), i / 2 ^ n = j / 2 ^ n → Inf (trans n v i)
  | 0, i, e => by
    rw [Nat.pow_zero, Nat.div_one, Nat.div_one] at e
    subst e; exact h
  | n + 1, i, e => by
    have hP : 0 < 2 ^ n := Nat.two_pow_pos n
    rw [Nat.pow_succ, ← Nat.div_div_eq_div_mul, ← Nat.div_div_eq_div_mul] at e
    show Inf (stage (2 ^ n) (trans n v) i)
    unfold stage
    split_ifs with h0
    · by_cases hj : i / 2 ^ n = j / 2 ^ n
      · exact (trans_inf v j h n i hj).add_left _
      · refine (trans_inf v j h n (i + 2 ^ n) ?_).add_right _
        rw [Nat.add_div_right _ hP]; omega
    · have hge : 2 ^ n ≤ i := by
        by_contra hlt
        rw [Nat.div_eq_of_lt (by omega)] at h0
        omega
      have e5 : (i - 2 ^ n) / 2 ^ n + 1 = i / 2 ^ n := by
        have := Nat.add_div_right (i - 2 ^ n) hP
        rw [Nat.sub_add_cancel hge] at this
        omega
      rw [sub_eq_add_neg]
      by_cases hj : i / 2 ^ n = j / 2 ^ n
      · exact (trans_inf v j h n i hj).neg.add_right _
      · exact (trans_inf v j h n (i - 2 ^ n) (by omega)).add_left _

/-! ## The kernel's way is the transform -/

theorem sg_ne_zero : ∀ n p, sg n p ≠ 0
  | 0, _ => one_ne_zero
  | n + 1, p => mul_ne_zero (sg_ne_zero n p) (by split_ifs <;> norm_num)

theorem regroup (a s w : EReal) : (a * s) * w = a * (w * s) := by rw [mul_assoc, mul_comm s w]

theorem transform_eq (w s : ℕ → EReal) (h0 : ∀ i, 4096 ≤ i → w i = 0) :
    (∀ b c, c < 256 → trans 12 (fun i => w i * s i) (256 * b + c) * kappa = mixed w s c b) ∨
      (∀ b c, b < 16 → c < 256 → Inf (trans 12 (fun i => w i * s i) (256 * b + c) * kappa) ∧ Inf (mixed w s c b)) := by
  by_cases hinf : ∃ j, Inf (w j * s j)
  · right
    obtain ⟨j, hj⟩ := hinf
    have hj4 : j < 4096 := by
      by_contra hge
      rw [h0 j (by omega), zero_mul] at hj
      rcases hj with h | h
      · exact EReal.zero_ne_top h
      · exact EReal.zero_ne_bot h
    intro b c hb hc
    constructor
    · exact (trans_inf _ j hj 12 _ (by
        rw [Nat.div_eq_of_lt (by omega : 256 * b + c < 2 ^ 12), Nat.div_eq_of_lt (by omega : j < 2 ^ 12)])).mul_coe (by norm_num)
    · refine trans_inf _ (j / 256) ?_ 4 b (by
        rw [Nat.div_eq_of_lt (by omega : b < 2 ^ 4), Nat.div_eq_of_lt (by omega : j / 256 < 2 ^ 4)])
      refine Inf.sum (k := j % 256) (Finset.mem_range.2 (Nat.mod_lt _ (by norm_num))) ?_
      rw [regroup, Nat.div_add_mod, mul_comm]
      exact hj.mul_coe (mul_ne_zero (sg_ne_zero _ _) (by norm_num))
  · left
    have hreal : ∀ j, ∃ r : ℝ, w j * s j = (r : EReal) := fun j => by
      have hn : ¬Inf (w j * s j) := fun h => hinf ⟨j, h⟩
      generalize w j * s j = x at hn
      induction x with
      | bot => exact absurd (Or.inr rfl) hn
      | coe r => exact ⟨r, rfl⟩
      | top => exact absurd (Or.inl rfl) hn
    choose f hf using hreal
    intro b c hc
    have hfun : (fun i => w i * s i) = fun i => (f i : EReal) := funext hf
    have hlow : low w s c = fun b => (((1 / 64) * transR 8 f (256 * b + c) : ℝ) : EReal) := by
      funext b
      unfold low
      rw [transR_eq_sum, Finset.mul_sum]
      have e : (256 * b + c) / 2 ^ 8 * 2 ^ 8 = 256 * b := by omega
      have ec : ∀ k, k < 256 → sg 8 ((256 * b + c) &&& k) = sg 8 (c &&& k) := fun k hk => sg_congr 8 _ _ fun t ht => by
        rw [Nat.testBit_and, Nat.testBit_and]
        congr 1
        have : (256 * b + c) % 2 ^ 8 = c % 2 ^ 8 := by omega
        rw [← testBit_low ht, this, testBit_low ht]
      rw [e, coe_sum]
      refine Finset.sum_congr rfl fun k hk => ?_
      rw [regroup, hf, ← EReal.coe_mul, ec k (Finset.mem_range.1 hk)]
      congr 1
      ring
    unfold mixed kappa
    rw [hlow, trans_coe, transR_smul, show (12 : ℕ) = 8 + 4 from rfl, trans_split _ _ hc, hfun,
      show (fun b => trans 8 (fun i => (f i : EReal)) (256 * b + c)) = fun b => ((transR 8 f (256 * b + c) : ℝ) : EReal) from
        funext fun b => trans_coe f 8 _, trans_coe, ← EReal.coe_mul, mul_comm]

end Cert.Fwht

end
-- ==== Proof.Quant.lean ====
/- The quantiser over the extended reals, as functions of one row's 4096 transformed values `X`:
   the scale of a group of 128 values (`scaleAt`), the code of a value (`codeOf`, an integer from -7 to 7: `codeZ`) and
   the byte of two neighbouring codes (`byteAt`). `quant_eq`: rows that are equal, or both infinite everywhere, quantise
   to the same scales and bytes. -/
module

public import proofs.«01_k».proof.Proof.Transform

@[expose] public section

noncomputable section

namespace Cert.Fwht

open Idealize.ShloMosaic

/-- The largest magnitude of group `g`. -/
def amax (X : ℕ → EReal) (g : ℕ) : EReal := (Finset.range 128).sup fun c => max (X (128 * g + c)) (-X (128 * g + c))

/-- The scale of a group whose largest magnitude is `a`. -/
def scaleOf (a : EReal) : EReal := if a = 0 then 1 else Ideal.div a ((7 : ℝ) : EReal)

/-- The scale of group `g`. -/
def scaleAt (X : ℕ → EReal) (g : ℕ) : EReal := scaleOf (amax X g)

/-- Rounding and clamping, of a value already divided by its scale. -/
def clampRound (q : EReal) : EReal := min (max (Ideal.liftRound Ideal.roundHalfEven q) ((-7 : ℝ) : EReal)) ((7 : ℝ) : EReal)

/-- The code of a value at a scale. -/
def codeOf (x s : EReal) : EReal := clampRound (Ideal.div x s)

theorem clampRound_int (q : EReal) : ∃ n : ℤ, -7 ≤ n ∧ n ≤ 7 ∧ clampRound q = ((n : ℝ) : EReal) := by
  unfold clampRound
  induction q with
  | bot => exact ⟨-7, by norm_num, by norm_num, by
      rw [Ideal.liftRound_bot, max_eq_right bot_le, min_eq_left (EReal.coe_le_coe_iff.2 (by norm_num))]; norm_num⟩
  | top => exact ⟨7, by norm_num, by norm_num, by
      rw [Ideal.liftRound_top, max_eq_left le_top, min_eq_right le_top]; norm_num⟩
  | coe r =>
    refine ⟨min (max (Ideal.roundHalfEven r) (-7)) 7, by omega, by omega, ?_⟩
    rw [Ideal.liftRound_coe]
    have hc : (((min (max (Ideal.roundHalfEven r) (-7)) 7 : ℤ)) : ℝ) = min (max ((Ideal.roundHalfEven r : ℤ) : ℝ) (-7)) 7 := by push_cast; rfl
    rw [hc]
    have hm : Monotone (fun x : ℝ => (x : EReal)) := fun a b h => EReal.coe_le_coe_iff.2 h
    rw [hm.map_min, hm.map_max]

/-- The code as an integer. -/
def codeZ (x s : EReal) : ℤ := (clampRound_int (Ideal.div x s)).choose

theorem codeZ_ge (x s : EReal) : -7 ≤ codeZ x s := (clampRound_int (Ideal.div x s)).choose_spec.1
theorem codeZ_le (x s : EReal) : codeZ x s ≤ 7 := (clampRound_int (Ideal.div x s)).choose_spec.2.1
theorem codeOf_eq (x s : EReal) : codeOf x s = ((codeZ x s : ℝ) : EReal) := (clampRound_int (Ideal.div x s)).choose_spec.2.2

/-- An integer's lowest four bits. -/
def nib (n : ℤ) : ℕ := (n % 16).toNat

/-- Two codes as a byte, the first in the low half. -/
def byteOf (n0 n1 : ℤ) : BitVec 8 := BitVec.ofNat 8 (nib n0 + 16 * nib n1)

/-- Byte `j` of a row: the codes of the values `2 j` and `2 j + 1`. -/
def byteAt (X : ℕ → EReal) (j : ℕ) : BitVec 8 :=
  byteOf (codeZ (X (2 * j)) (scaleAt X (j / 64))) (codeZ (X (2 * j + 1)) (scaleAt X (j / 64)))

/-! ## The scale is never zero, so that a product with its reciprocal is the quotient -/

theorem amax_nonneg (X : ℕ → EReal) (g : ℕ) : 0 ≤ amax X g := by
  have h : max (X (128 * g + 0)) (-X (128 * g + 0)) ≤ amax X g :=
    Finset.le_sup (f := fun c => max (X (128 * g + c)) (-X (128 * g + c))) (Finset.mem_range.2 (by norm_num))
  refine le_trans ?_ h
  rcases le_total 0 (X (128 * g + 0)) with h0 | h0
  · exact le_max_of_le_left h0
  · exact le_max_of_le_right (by rwa [EReal.le_neg, neg_zero])

theorem scaleAt_ne_zero (X : ℕ → EReal) (g : ℕ) : scaleAt X g ≠ 0 := by
  unfold scaleAt scaleOf
  split_ifs with h
  · exact one_ne_zero
  · rw [Ideal.div_coe (by norm_num)]
    exact mul_ne_zero h (by exact_mod_cast (by norm_num : (1 / 7 : ℝ) ≠ 0))

theorem mul_div_one {x s : EReal} (h : s ≠ 0) : x * Ideal.div ((1 : ℝ) : EReal) s = Ideal.div x s := by
  unfold Ideal.div
  rw [if_neg h, if_neg h, EReal.coe_one, one_mul]

/-! ## Rows that are equal or infinite quantise alike -/

theorem max_neg_of_inf {x : EReal} (h : Inf x) : max x (-x) = ⊤ := by
  rcases h with rfl | rfl
  · exact max_eq_left le_top
  · exact max_eq_right bot_le

theorem amax_inf {X : ℕ → EReal} {g : ℕ} (h : ∀ c < 128, Inf (X (128 * g + c))) : amax X g = ⊤ :=
  top_le_iff.1 ((max_neg_of_inf (h 0 (by norm_num))).ge.trans
    (Finset.le_sup (f := fun c => max (X (128 * g + c)) (-X (128 * g + c))) (Finset.mem_range.2 (by norm_num))))

theorem scaleOf_top : scaleOf ⊤ = ⊤ := by
  unfold scaleOf
  rw [if_neg EReal.top_ne_zero, Ideal.div_coe (by norm_num)]
  exact EReal.top_mul_coe_of_pos (by norm_num)

theorem div_top (x : EReal) : Ideal.div x ⊤ = 0 := by
  unfold Ideal.div
  rw [if_neg EReal.top_ne_zero, EReal.inv_top, mul_zero]

theorem codeZ_congr {x y s t : EReal} (h : Ideal.div x s = Ideal.div y t) : codeZ x s = codeZ y t := by
  have := (codeOf_eq x s).symm.trans ((congrArg clampRound h).trans (codeOf_eq y t))
  exact_mod_cast this

theorem quant_eq {X Z : ℕ → EReal} (h : (∀ i < 4096, X i = Z i) ∨ (∀ i < 4096, Inf (X i) ∧ Inf (Z i))) :
    (∀ g < 32, scaleAt X g = scaleAt Z g) ∧ ∀ j < 2048, byteAt X j = byteAt Z j := by
  rcases h with h | h
  · have hs : ∀ g < 32, scaleAt X g = scaleAt Z g := fun g hg =>
      congrArg scaleOf (Finset.sup_congr rfl fun c hc => by rw [h _ (by have := Finset.mem_range.1 hc; omega)])
    exact ⟨hs, fun j hj => by unfold byteAt; rw [hs _ (by omega), h _ (by omega), h _ (by omega)]⟩
  · have hX : ∀ g < 32, scaleAt X g = ⊤ := fun g hg => by
      unfold scaleAt; rw [amax_inf fun c hc => (h _ (by omega)).1, scaleOf_top]
    have hZ : ∀ g < 32, scaleAt Z g = ⊤ := fun g hg => by
      unfold scaleAt; rw [amax_inf fun c hc => (h _ (by omega)).2, scaleOf_top]
    refine ⟨fun g hg => (hX g hg).trans (hZ g hg).symm, fun j hj => ?_⟩
    unfold byteAt
    rw [hX _ (by omega), hZ _ (by omega)]
    rw [codeZ_congr (x := X (2 * j)) (y := Z (2 * j)) ((div_top _).trans (div_top _).symm),
      codeZ_congr (x := X (2 * j + 1)) (y := Z (2 * j + 1)) ((div_top _).trans (div_top _).symm)]

/-! ## The two programs' rows -/

/-- The reference's transformed row. -/
def refRow (w s : ℕ → EReal) (i : ℕ) : EReal := trans 12 (fun i => w i * s i) i * kappa

/-- The kernel's transformed row. -/
def kerRow (w s : ℕ → EReal) (i : ℕ) : EReal := mixed w s (i % 256) (i / 256)

theorem rows_quantise_alike (w s : ℕ → EReal) (h0 : ∀ i, 4096 ≤ i → w i = 0) :
    (∀ g < 32, scaleAt (kerRow w s) g = scaleAt (refRow w s) g) ∧ ∀ j < 2048, byteAt (kerRow w s) j = byteAt (refRow w s) j := by
  refine quant_eq ((transform_eq w s h0).imp (fun h i hi => ?_) fun h i hi => ?_)
  · have := h (i / 256) (i % 256) (Nat.mod_lt _ (by norm_num))
    rw [Nat.div_add_mod] at this
    exact this.symm
  · have := h (i / 256) (i % 256) (by omega) (Nat.mod_lt _ (by norm_num))
    rw [Nat.div_add_mod] at this
    exact this.symm

end Cert.Fwht

end
-- ==== Proof.Consts.lean ====
/- The float constants of both programs as extended reals, and the bits of a byte of two codes. -/
module

public import proofs.«01_k».proof.Proof.Quant
public import Idealize.ShloMosaic.Lib.IdealHost

@[expose] public section

noncomputable section

namespace Cert.Fwht

open Idealize.ShloMosaic

theorem const_kappa : Ideal.ofBits .f32 0x3C800000#32 = kappa := by
  unfold kappa
  simp [Ideal.ofBits, Ideal.ieee, -EReal.coe_mul]; norm_num

theorem const_1 : Ideal.ofBits .f32 0x3F800000#32 = 1 := by
  rw [show (1 : EReal) = ((1 : ℝ) : EReal) by norm_cast]
  simp [Ideal.ofBits, Ideal.ieee, -EReal.coe_mul]; norm_num

theorem const_bot : Ideal.ofBits .f32 0xFF800000#32 = ⊥ := by
  simp [Ideal.ofBits, Ideal.ieee, -EReal.coe_mul]

theorem const_7 : Ideal.ofBits .f32 0x40E00000#32 = ((7 : ℝ) : EReal) := by
  simp [Ideal.ofBits, Ideal.ieee, -EReal.coe_mul]; norm_num

theorem const_neg7 : Ideal.ofBits .f32 0xC0E00000#32 = ((-7 : ℝ) : EReal) := by
  simp [Ideal.ofBits, Ideal.ieee, -EReal.coe_mul, -EReal.coe_neg]; norm_num

theorem const_256 : Ideal.ofBits .f32 0x43800000#32 = ((256 : ℝ) : EReal) := by
  simp [Ideal.ofBits, Ideal.ieee, -EReal.coe_mul]; norm_num

theorem const_16 : Ideal.ofBits .f32 0x41800000#32 = ((16 : ℝ) : EReal) := by
  simp [Ideal.ofBits, Ideal.ieee, -EReal.coe_mul]; norm_num

theorem const_b7 : Ideal.ofBits .bf16 0x40E0#16 = ((7 : ℝ) : EReal) := by
  simp [Ideal.ofBits, Ideal.ieee, -EReal.coe_mul]; norm_num

theorem const_bneg7 : Ideal.ofBits .bf16 0xC0E0#16 = ((-7 : ℝ) : EReal) := by
  simp [Ideal.ofBits, Ideal.ieee, -EReal.coe_mul, -EReal.coe_neg]; norm_num

/-- An integer of small magnitude converted to a 32-bit word. -/
theorem fptosi_int (n : ℤ) (h1 : -65536 ≤ n) (h2 : n ≤ 65536) : Ideal.fptosi 32 ((n : ℝ) : EReal) = BitVec.ofInt 32 n := by
  unfold Ideal.fptosi
  rw [Ideal.toIntClamped_coe, Int.floor_intCast, Int.ceil_intCast, ite_self]
  congr 1
  norm_num
  omega

/-- The reference's packing of two codes. -/
theorem pack_ref (a b : ℤ) (ha : -7 ≤ a) (ha' : a ≤ 7) (hb : -7 ≤ b) (hb' : b ≤ 7) :
    ((((BitVec.ofInt 32 a).setWidth 8).signExtend 32 &&& 15#32) ||| ((((BitVec.ofInt 32 b).setWidth 8).signExtend 32 &&& 15#32) <<< (4#32))).setWidth 8
      = byteOf a b := by
  have key : ∀ a b : Fin 15,
      ((((BitVec.ofInt 32 ((a.val : ℤ) - 7)).setWidth 8).signExtend 32 &&& 15#32) |||
        ((((BitVec.ofInt 32 ((b.val : ℤ) - 7)).setWidth 8).signExtend 32 &&& 15#32) <<< (4#32))).setWidth 8
      = byteOf ((a.val : ℤ) - 7) ((b.val : ℤ) - 7) := by decide
  have := key ⟨(a + 7).toNat, by omega⟩ ⟨(b + 7).toNat, by omega⟩
  rwa [show (((⟨(a + 7).toNat, by omega⟩ : Fin 15).val : ℤ) - 7) = a by show ((a + 7).toNat : ℤ) - 7 = a; omega,
    show (((⟨(b + 7).toNat, by omega⟩ : Fin 15).val : ℤ) - 7) = b by show ((b + 7).toNat : ℤ) - 7 = b; omega] at this

theorem amax_le_iff (X : ℕ → EReal) (g : ℕ) (y : EReal) :
    amax X g ≤ y ↔ ∀ c < 128, max (X (128 * g + c)) (-X (128 * g + c)) ≤ y := by
  unfold amax
  rw [Finset.sup_le_iff]
  exact ⟨fun h c hc => h c (Finset.mem_range.2 hc), fun h c hc => h c (Finset.mem_range.1 hc)⟩

end Cert.Fwht

end
-- ==== Proof.Planes.lean ====
/- What the plane buffer holds over the extended reals. From the sixteen products `Y b` (the channel `r` of plane `b`, of
   the weights' row `ρ`), the buffer first holds two butterfly steps over the planes (`canon_base`), and after the 128
   in-place steps all four (`canon_xs`). -/
module

public import proofs.«01_k».proof.Proof.Blocks
public import proofs.«01_k».proof.Proof.Consts
public import Idealize.ShloMosaic.Lib.Pipeline.FrameBody
public import Idealize.ShloMosaic.Lib.Pipeline.Value

@[expose] public section

noncomputable section

namespace Cert.KernelIdeal.Body

open Cert.KernelIdeal Cert.KernelIdeal.Gen Idealize.ShloMosaic Idealize.ShloMosaic.TcCoe Idealize.SL.Sem Cert.Fwht

/-! ## Reading a list of stores at an index -/

section
variable {Val : EltTy → Type} [∀ e, Nonempty (Val e)] {s : Shape} {e : EltTy}

theorem canon_hit {off size : Fin s.rank → ℕ} {inb : ∀ a, off a + size a ≤ s.size a} {w : (Rect.unit (s := s) off size inb).shape.Idx → Val e}
    {L : List (View.Piece Val s e)} (x : s.Idx) (j : (Rect.unit (s := s) off size inb).shape.Idx) (h : ∀ a, (x a).val = off a + (j a).val) :
    View.canon (⟨Rect.unit (s := s) off size inb, w⟩ :: L) x = w j := by
  have hx : x = (Rect.unit (s := s) off size inb).emb j := funext fun a => Fin.ext (by
    rw [h a]; show _ = off a + 1 * (j a).val; rw [Nat.one_mul])
  rw [hx]
  exact View.canon_cons_emb _ _ _ _

theorem canon_miss {off size : Fin s.rank → ℕ} {inb : ∀ a, off a + size a ≤ s.size a} {w : (Rect.unit (s := s) off size inb).shape.Idx → Val e}
    {L : List (View.Piece Val s e)} (x : s.Idx) (a : Fin s.rank) (h : (x a).val < off a ∨ off a + size a ≤ (x a).val) :
    View.canon (⟨Rect.unit (s := s) off size inb, w⟩ :: L) x = View.canon L x :=
  View.canon_cons_of_not_mem ⟨Rect.unit (s := s) off size inb, w⟩ L fun hm => by
    have h2 := (Rect.mem_set_unit (off := off) (size := size) (inb := inb)).1 hm a
    omega
end

/-! ## Indices -/

abbrev i2 {m n : ℕ} (a b : ℕ) (ha : a < m) (hb : b < n) : (⟨2, ![m, n]⟩ : Shape).Idx := fun x => match x with
  | ⟨0, _⟩ => ⟨a, ha⟩
  | ⟨1, _⟩ => ⟨b, hb⟩

abbrev i3 {l m n : ℕ} (a b c : ℕ) (ha : a < l) (hb : b < m) (hc : c < n) : (⟨3, ![l, m, n]⟩ : Shape).Idx := fun x => match x with
  | ⟨0, _⟩ => ⟨a, ha⟩
  | ⟨1, _⟩ => ⟨b, hb⟩
  | ⟨2, _⟩ => ⟨c, hc⟩

theorem i3_eq {l m n : ℕ} (x : (⟨3, ![l, m, n]⟩ : Shape).Idx) : x = i3 (x 0).val (x 1).val (x 2).val (x 0).isLt (x 1).isLt (x 2).isLt := by
  funext a
  match a with
  | ⟨0, _⟩ => rfl
  | ⟨1, _⟩ => rfl
  | ⟨2, _⟩ => rfl

theorem i2_eq {m n : ℕ} (x : (⟨2, ![m, n]⟩ : Shape).Idx) : x = i2 (x 0).val (x 1).val (x 0).isLt (x 1).isLt := by
  funext a
  match a with
  | ⟨0, _⟩ => rfl
  | ⟨1, _⟩ => rfl

/-- Dropping a leading unit axis; -/
theorem cast_drop {α : Type} {m n : ℕ} (x : (⟨3, ![1, m, n]⟩ : Shape).Idx → α) (h : (⟨3, ![1, m, n]⟩ : Shape).ShapeCasts ⟨2, ![m, n]⟩)
    (a b : ℕ) (ha : a < m) (hb : b < n) : shapeCast ⟨2, ![m, n]⟩ x h (i2 a b ha hb) = x (i3 0 a b Nat.one_pos ha hb) :=
  shapeCast_apply x h _ _ (by
    rw [Shape.rowMajor_val_three, Shape.rowMajor_val_two]
    show (0 * m + a) * n + b = a * n + b
    ring)

/-- putting it back. -/
theorem cast_add {α : Type} {m n : ℕ} (x : (⟨2, ![m, n]⟩ : Shape).Idx → α) (h : (⟨2, ![m, n]⟩ : Shape).ShapeCasts ⟨3, ![1, m, n]⟩)
    (z a b : ℕ) (hz : z < 1) (ha : a < m) (hb : b < n) : shapeCast ⟨3, ![1, m, n]⟩ x h (i3 z a b hz ha hb) = x (i2 a b ha hb) :=
  shapeCast_apply x h _ _ (by
    rw [Shape.rowMajor_val_three, Shape.rowMajor_val_two]
    show a * n + b = (z * m + a) * n + b
    rw [show z = 0 by omega]
    ring)

/-! ## Butterflies over four neighbours and over four quarters -/

/-- One of four outputs. -/
def r4 (n : ℕ) (a b c d : EReal) : EReal :=
  match n with
  | 0 => (a + b) + (c + d)
  | 1 => (a - b) + (c - d)
  | 2 => (a + b) - (c + d)
  | _ => (a - b) - (c - d)

theorem radix4_apply {s : Shape} (n : ℕ) (y0 y1 y2 y3 : FVec Ideal s .f32) (j : s.Idx) :
    radix4 n y0 y1 y2 y3 j = r4 n (y0 j) (y1 j) (y2 j) (y3 j) := by
  match n with
  | 0 => rfl
  | 1 => rfl
  | 2 => rfl
  | _ + 3 => rfl

theorem trans2_eq (v : ℕ → EReal) (q n : ℕ) (hn : n < 4) :
    trans 2 v (4 * q + n) = r4 n (v (4 * q)) (v (4 * q + 1)) (v (4 * q + 2)) (v (4 * q + 3)) := by
  show stage (2 ^ 1) (stage (2 ^ 0) v) (4 * q + n) = _
  unfold stage
  norm_num
  interval_cases n
  · simp only [show (4 * q + 0) / 2 % 2 = 0 by omega, show (4 * q + 0) % 2 = 0 by omega, show (4 * q + 0 + 2) % 2 = 0 by omega, if_true]
    rfl
  · simp only [show (4 * q + 1) / 2 % 2 = 0 by omega, show ¬(4 * q + 1) % 2 = 0 by omega, show ¬(4 * q + 1 + 2) % 2 = 0 by omega, if_true, if_false]
    rfl
  · simp only [show ¬(4 * q + 2) / 2 % 2 = 0 by omega, show (4 * q + 2) % 2 = 0 by omega, show (4 * q + 2 - 2) % 2 = 0 by omega, if_true, if_false]
    rfl
  · simp only [show ¬(4 * q + 3) / 2 % 2 = 0 by omega, show ¬(4 * q + 3) % 2 = 0 by omega, show ¬(4 * q + 3 - 2) % 2 = 0 by omega, if_false]
    rfl

theorem trans4_eq (v : ℕ → EReal) (j n : ℕ) (hj : j < 4) (hn : n < 4) :
    trans 4 v (j + 4 * n) = r4 n (trans 2 v j) (trans 2 v (j + 4)) (trans 2 v (j + 8)) (trans 2 v (j + 12)) := by
  show stage (2 ^ 3) (stage (2 ^ 2) (trans 2 v)) (j + 4 * n) = _
  generalize trans 2 v = u
  unfold stage
  norm_num
  interval_cases j <;> interval_cases n <;> rfl

/-- A load, read at an index. -/
theorem readCov_at {S : Shape} {e : EltTy} (m : Memref sig .tc .vmem S e) (L : List (View.Piece (Elt Ideal) S e)) {off size : Fin S.rank → ℕ}
    {inb : ∀ a, off a + size a ≤ S.size a} (j : (Rect.unit (s := S) off size inb).toLoadRect.shape.Idx) (x : S.Idx)
    (h : ∀ a, (x a).val = off a + (j a).val) :
    m.view.readCov L (Rect.unit (s := S) off size inb).toLoadRect j = View.canon L x := by
  rw [View.readCov_eq_canon']
  exact congrArg (View.canon L) (funext fun a => Fin.ext (by
    rw [h a]; show off a + 1 * (j a).val = _; rw [Nat.one_mul]))

/-! ## The planes -/

variable (H : ℕ → Vec Ideal S1x256x256 .bf16) (W : ℕ → Vec Ideal S256x256 .bf16) (m7 : Memref sig .tc .vmem S16x256x256 .f32)
variable (Y : ℕ → ℕ → ℕ → EReal)

/-- The products are `Y`. -/
def Products : Prop := ∀ b < 16, ∀ r (hr : r < 256) ρ (hρ : ρ < 256), prod (H b) (W b) (i2 r ρ hr hρ) = Y b r ρ

/-- Two butterfly steps over the planes, -/
def X1 (p r ρ : ℕ) : EReal := trans 2 (fun b => Y b r ρ) p
/-- and all four. -/
def X2 (p r ρ : ℕ) : EReal := trans 4 (fun b => Y b r ρ) p

theorem plane_hit {e : EltTy} {b p r ρ : ℕ} {w : (plane b).shape.Idx → Elt Ideal e} {L : List (View.Piece (Elt Ideal) S16x256x256 e)}
    (hp : p < 16) (hr : r < 256) (hρ : ρ < 256) (h : b % 16 = p) :
    View.canon (⟨plane b, w⟩ :: L) (i3 p r ρ hp hr hρ) = w (i3 0 r ρ Nat.one_pos hr hρ) :=
  canon_hit (s := S16x256x256) (i3 p r ρ hp hr hρ) (i3 0 r ρ Nat.one_pos hr hρ) fun (a : Fin 3) => by
    match a with
    | ⟨0, _⟩ => exact h.symm
    | ⟨1, _⟩ => exact (Nat.zero_add r).symm
    | ⟨2, _⟩ => exact (Nat.zero_add ρ).symm

theorem plane_miss {e : EltTy} {b p r ρ : ℕ} {w : (plane b).shape.Idx → Elt Ideal e} {L : List (View.Piece (Elt Ideal) S16x256x256 e)}
    (hp : p < 16) (hr : r < 256) (hρ : ρ < 256) (h : b % 16 ≠ p) :
    View.canon (⟨plane b, w⟩ :: L) (i3 p r ρ hp hr hρ) = View.canon L (i3 p r ρ hp hr hρ) :=
  canon_miss _ 0 (by show p < b % 16 ∨ b % 16 + 1 ≤ p; omega)

theorem basePay_apply (hP : Products H W Y) (q n r ρ : ℕ) (hq : q < 4) (hn : n < 4) (hr : r < 256) (hρ : ρ < 256) :
    basePay H W q n (i3 0 r ρ Nat.one_pos hr hρ) = X1 Y (4 * q + n) r ρ := by
  unfold basePay X1
  rw [cast_add, radix4_apply, trans2_eq _ _ _ hn, hP _ (by omega), hP _ (by omega), hP _ (by omega), hP _ (by omega)]

theorem canon_base (hP : Products H W Y) (p r ρ : ℕ) (hp : p < 16) (hr : r < 256) (hρ : ρ < 256) :
    ∀ Q ≤ 4, p < 4 * Q → View.canon (base H W Q) (i3 p r ρ hp hr hρ) = X1 Y p r ρ
  | 0, _, h => absurd h (by omega)
  | Q + 1, hQ, h => by
    show View.canon (⟨plane (4 * Q + 3), basePay H W Q 3⟩ :: ⟨plane (4 * Q + 2), basePay H W Q 2⟩ ::
      ⟨plane (4 * Q + 1), basePay H W Q 1⟩ :: ⟨plane (4 * Q), basePay H W Q 0⟩ :: base H W Q) _ = _
    rcases (by omega : p = 4 * Q + 3 ∨ p = 4 * Q + 2 ∨ p = 4 * Q + 1 ∨ p = 4 * Q ∨ p < 4 * Q) with h1 | h1 | h1 | h1 | h1
    · rw [plane_hit hp hr hρ (by omega), basePay_apply H W Y hP Q 3 r ρ (by omega) (by omega), h1]
    · rw [plane_miss hp hr hρ (by omega), plane_hit hp hr hρ (by omega), basePay_apply H W Y hP Q 2 r ρ (by omega) (by omega), h1]
    · rw [plane_miss hp hr hρ (by omega), plane_miss hp hr hρ (by omega), plane_hit hp hr hρ (by omega),
        basePay_apply H W Y hP Q 1 r ρ (by omega) (by omega), h1]
    · rw [plane_miss hp hr hρ (by omega), plane_miss hp hr hρ (by omega), plane_miss hp hr hρ (by omega), plane_hit hp hr hρ (by omega),
        basePay_apply H W Y hP Q 0 r ρ (by omega) (by omega), h1]
      rfl
    · rw [plane_miss hp hr hρ (by omega), plane_miss hp hr hρ (by omega), plane_miss hp hr hρ (by omega), plane_miss hp hr hρ (by omega),
        canon_base hP p r ρ hp hr hρ Q (by omega) h1]

/-! ## The in-place steps -/

/-- The first channel step `k` updates, -/
def row0 (k : ℕ) : ℕ := 64 * (k / 16 % 2) + 128 * (k % 16 / 8) + 8 * (k % 8)
/-- and the step which updates channel `r` of plane `p`. -/
def ord (p r : ℕ) : ℕ := ((p % 4) * 2 + r / 64 % 2) * 16 + 8 * (r / 128) + r % 64 / 8

theorem row0_lt (k s : ℕ) (hs : s < 8) : row0 k + s < 256 := by unfold row0; omega
theorem at_lt (k n : ℕ) (hn : n < 4) : k / 32 % 4 + 4 * n < 16 := by omega
theorem ord_digits (A B C D n s : ℕ) (hA : A < 4) (hB : B < 2) (hC : C < 2) (hD : D < 8) (hs : s < 8) :
    ord (A + 4 * n) (64 * B + 128 * C + 8 * D + s) = (A * 2 + B) * 16 + 8 * C + D := by
  unfold ord; omega
theorem ord_row0 (k n s : ℕ) (hk : k < 128) (hs : s < 8) : ord (k / 32 % 4 + 4 * n) (row0 k + s) = k := by
  unfold row0
  rw [ord_digits _ _ _ _ n s (by omega) (by omega) (by omega) (by omega) hs]
  omega

theorem digits (A B C D : ℕ) (hA : A < 4) (hB : B < 2) (hC : C < 2) (hD : D < 8) :
    ((A * 2 + B) * 16 + 8 * C + D) / 32 % 4 = A ∧ row0 ((A * 2 + B) * 16 + 8 * C + D) = 64 * B + 128 * C + 8 * D := by
  unfold row0; omega
theorem of_ord (k p r : ℕ) (hp : p < 16) (hr : r < 256) (h : ord p r = k) : p % 4 = k / 32 % 4 ∧ row0 k ≤ r ∧ r < row0 k + 8 := by
  obtain ⟨h1, h2⟩ := digits (p % 4) (r / 64 % 2) (r / 128) (r % 64 / 8) (by omega) (by omega) (by omega) (by omega)
  rw [← h]
  unfold ord
  rw [h1, h2]
  omega

theorem rows_hit {k n p r s ρ : ℕ} {w : (rows k n).shape.Idx → EReal} {L : List (View.Piece (Elt Ideal) S16x256x256 .f32)}
    (hp : p < 16) (hr : r < 256) (hρ : ρ < 256) (hs : s < 8) (h : p = k / 32 % 4 + 4 * (n % 4)) (h' : r = row0 k + s) :
    View.canon (⟨rows k n, w⟩ :: L) (i3 p r ρ hp hr hρ) = w (i3 0 s ρ Nat.one_pos hs hρ) :=
  canon_hit (s := S16x256x256) (i3 p r ρ hp hr hρ) (i3 0 s ρ Nat.one_pos hs hρ) fun (a : Fin 3) => by
    match a with
    | ⟨0, _⟩ => exact h
    | ⟨1, _⟩ => exact h'
    | ⟨2, _⟩ => exact (Nat.zero_add ρ).symm

theorem rows_miss {k n p r ρ : ℕ} {w : (rows k n).shape.Idx → EReal} {L : List (View.Piece (Elt Ideal) S16x256x256 .f32)}
    (hp : p < 16) (hr : r < 256) (hρ : ρ < 256) (h : p ≠ k / 32 % 4 + 4 * (n % 4) ∨ r < row0 k ∨ row0 k + 8 ≤ r) :
    View.canon (⟨rows k n, w⟩ :: L) (i3 p r ρ hp hr hρ) = View.canon L (i3 p r ρ hp hr hρ) := by
  rcases h with h | h
  · exact canon_miss _ 0 (by show p < k / 32 % 4 + 4 * (n % 4) ∨ k / 32 % 4 + 4 * (n % 4) + 1 ≤ p; omega)
  · exact canon_miss _ 1 (by show r < row0 k ∨ row0 k + 8 ≤ r; exact h)

theorem zin_apply (k n s ρ : ℕ) (hn : n < 4) (hs : s < 8) (hρ : ρ < 256) (L : List (View.Piece (Elt Ideal) S16x256x256 .f32)) :
    zin m7 k n L (i2 s ρ hs hρ) = View.canon L (i3 (k / 32 % 4 + 4 * n) (row0 k + s) ρ (at_lt k n hn) (row0_lt k s hs) hρ) := by
  unfold zin
  rw [cast_drop]
  refine readCov_at m7 L _ _ fun a => ?_
  match a with
  | ⟨0, _⟩ => show k / 32 % 4 + 4 * n = k / 32 % 4 + 4 * (n % 4) + 0; omega
  | ⟨1, _⟩ => rfl
  | ⟨2, _⟩ => exact (Nat.zero_add ρ).symm

/-- What step `k` computes, if the buffer holds what it should. -/
theorem zout_apply (k n s ρ : ℕ) (hk : k < 128) (hn : n < 4) (hs : s < 8) (hρ : ρ < 256) (L : List (View.Piece (Elt Ideal) S16x256x256 .f32))
    (hL : ∀ p r (hp : p < 16) (hr : r < 256), View.canon L (i3 p r ρ hp hr hρ) = if ord p r < k then X2 Y p r ρ else X1 Y p r ρ) :
    zout m7 k n L (i2 s ρ hs hρ) = X2 Y (k / 32 % 4 + 4 * n) (row0 k + s) ρ := by
  have hz : ∀ n' (hn' : n' < 4), zin m7 k n' L (i2 s ρ hs hρ) = trans 2 (fun b => Y b (row0 k + s) ρ) (k / 32 % 4 + 4 * n') := fun n' hn' => by
    rw [zin_apply m7 k n' s ρ hn' hs hρ L, hL, ord_row0 k n' s hk hs, if_neg (lt_irrefl k)]
    rfl
  unfold zout X2
  rw [radix4_apply, trans4_eq _ _ _ (by omega) hn, hz 0 (by omega), hz 1 (by omega), hz 2 (by omega), hz 3 (by omega)]
  rfl

theorem canon_step (k p r ρ : ℕ) (hk : k < 128) (hp : p < 16) (hr : r < 256) (hρ : ρ < 256) (L : List (View.Piece (Elt Ideal) S16x256x256 .f32))
    (hL : ∀ p r (hp : p < 16) (hr : r < 256), View.canon L (i3 p r ρ hp hr hρ) = if ord p r < k then X2 Y p r ρ else X1 Y p r ρ) :
    View.canon (step m7 k L) (i3 p r ρ hp hr hρ) = if ord p r < k + 1 then X2 Y p r ρ else X1 Y p r ρ := by
  unfold step
  by_cases ho : ord p r = k
  · obtain ⟨hj, hb⟩ := of_ord k p r hp hr ho
    have hs : r - row0 k < 8 := by omega
    have hr' : r = row0 k + (r - row0 k) := by omega
    rw [if_pos (by omega)]
    have fin : ∀ n (hn : n < 4), p = k / 32 % 4 + 4 * n → (shapeCast S1x8x256 (zout m7 k n L) shapeCasts_S8x256_S1x8x256 : FVec Ideal S1x8x256 .f32)
        (i3 0 (r - row0 k) ρ Nat.one_pos hs hρ) = X2 Y p r ρ := fun n hn hpn => by
      rw [cast_add, zout_apply m7 Y k n _ ρ hk hn hs hρ L hL, ← hpn, ← hr']
    rcases (by omega : p / 4 = 0 ∨ p / 4 = 1 ∨ p / 4 = 2 ∨ p / 4 = 3) with h | h | h | h
    · rw [rows_miss hp hr hρ (by omega), rows_miss hp hr hρ (by omega), rows_miss hp hr hρ (by omega), rows_hit hp hr hρ hs (by omega) hr',
        fin 0 (by omega) (by omega)]
    · rw [rows_miss hp hr hρ (by omega), rows_miss hp hr hρ (by omega), rows_hit hp hr hρ hs (by omega) hr', fin 1 (by omega) (by omega)]
    · rw [rows_miss hp hr hρ (by omega), rows_hit hp hr hρ hs (by omega) hr', fin 2 (by omega) (by omega)]
    · rw [rows_hit hp hr hρ hs (by omega) hr', fin 3 (by omega) (by omega)]
  · have hm : ∀ n, n < 4 → (p ≠ k / 32 % 4 + 4 * (n % 4) ∨ r < row0 k ∨ row0 k + 8 ≤ r) := fun n hn => by
      by_contra hc
      push Not at hc
      obtain ⟨h1, h2, h3⟩ := hc
      refine ho ?_
      have := ord_row0 k n (r - row0 k) hk (by omega)
      rwa [show row0 k + (r - row0 k) = r by omega, show k / 32 % 4 + 4 * n = p by omega] at this
    rw [rows_miss hp hr hρ (hm 3 (by omega)), rows_miss hp hr hρ (hm 2 (by omega)), rows_miss hp hr hρ (hm 1 (by omega)),
      rows_miss hp hr hρ (hm 0 (by omega)), hL]
    exact if_congr (by omega) rfl rfl

/-- The buffer before step `k`. -/
theorem canon_xs (hP : Products H W Y) (ρ : ℕ) (hρ : ρ < 256) : ∀ k ≤ 128, ∀ p r (hp : p < 16) (hr : r < 256),
    View.canon (xs H W m7 k) (i3 p r ρ hp hr hρ) = if ord p r < k then X2 Y p r ρ else X1 Y p r ρ
  | 0, _, p, r, hp, hr => by
    rw [if_neg (Nat.not_lt_zero _)]
    exact canon_base H W Y hP p r ρ hp hr hρ 4 le_rfl (by omega)
  | k + 1, hk, p, r, hp, hr => canon_step m7 Y k p r ρ (by omega) hp hr hρ _ (canon_xs hP ρ hρ k (by omega))

/-- The buffer at the end. -/
theorem canon_planes (hP : Products H W Y) (p r ρ : ℕ) (hp : p < 16) (hr : r < 256) (hρ : ρ < 256) :
    View.canon (xs H W m7 128) (i3 p r ρ hp hr hρ) = X2 Y p r ρ := by
  rw [canon_xs H W m7 Y hP ρ hρ 128 le_rfl, if_pos (by unfold ord; omega)]

/-! ## The maxima -/

/-- A bound on a magnitude. -/
def Below (y x : EReal) : Prop := max x (-x) ≤ y

theorem acc_le (hP : Products H W Y) (n i s ρ : ℕ) (y : EReal) (hn : n < 4) (hi : i < 8) (hs : s < 8) (hρ : ρ < 256) : ∀ m < 16,
    (acc H W m7 n (16 * i + m + 1) (i2 s ρ hs hρ) ≤ y ↔ ∀ t ≤ m, Below y (X2 Y (i / 2 + 4 * n) (64 * (i % 2) + 128 * (t / 8) + 8 * (t % 8) + s) ρ)) := by
  have hz : ∀ m < 16, absf (zout m7 (16 * i + m) n (xs H W m7 (16 * i + m))) (i2 s ρ hs hρ) ≤ y ↔
      Below y (X2 Y (i / 2 + 4 * n) (64 * (i % 2) + 128 * (m / 8) + 8 * (m % 8) + s) ρ) := fun m hm => by
    show max (zout m7 (16 * i + m) n (xs H W m7 (16 * i + m)) (i2 s ρ hs hρ)) (-zout m7 (16 * i + m) n (xs H W m7 (16 * i + m)) (i2 s ρ hs hρ)) ≤ y ↔ _
    rw [zout_apply m7 Y (16 * i + m) n s ρ (by omega) hn hs hρ _ (canon_xs H W m7 Y hP ρ hρ _ (by omega)),
      show (16 * i + m) / 32 % 4 = i / 2 by omega,
      show row0 (16 * i + m) = 64 * (i % 2) + 128 * (m / 8) + 8 * (m % 8) by unfold row0; omega]
    rfl
  intro m
  induction m with
  | zero =>
    intro _
    show (if (16 * i + 0) % 16 = 0 then absf (zout m7 (16 * i + 0) n (xs H W m7 (16 * i + 0))) else maximumf (acc H W m7 n (16 * i + 0)) _)
      (i2 s ρ hs hρ) ≤ y ↔ _
    rw [if_pos (by omega), hz 0 (by omega)]
    exact ⟨fun h t ht => by rw [show t = 0 by omega]; exact h, fun h => h 0 le_rfl⟩
  | succ m ih =>
    intro hm
    show (if (16 * i + (m + 1)) % 16 = 0 then absf (zout m7 (16 * i + (m + 1)) n (xs H W m7 (16 * i + (m + 1))))
      else maximumf (acc H W m7 n (16 * i + m + 1)) (absf (zout m7 (16 * i + (m + 1)) n (xs H W m7 (16 * i + (m + 1))))))
      (i2 s ρ hs hρ) ≤ y ↔ _
    rw [if_neg (by omega)]
    show max (acc H W m7 n (16 * i + m + 1) (i2 s ρ hs hρ)) (absf (zout m7 (16 * i + (m + 1)) n (xs H W m7 (16 * i + (m + 1)))) (i2 s ρ hs hρ)) ≤ y ↔ _
    rw [max_le_iff, ih (by omega), hz (m + 1) hm]
    refine ⟨fun h t ht => ?_, fun h => ⟨fun t ht => h t (by omega), h _ le_rfl⟩⟩
    rcases (by omega : t ≤ m ∨ t = m + 1) with h1 | h1
    · exact h.1 t h1
    · rw [h1]; exact h.2

theorem max_hit {i n g s ρ : ℕ} {w : (maxrow i n).shape.Idx → EReal} {L : List (View.Piece (Elt Ideal) S32x8x256 .f32)}
    (hg : g < 32) (hs : s < 8) (hρ : ρ < 256) (h : g = 2 * (i / 2 % 4 + 4 * (n % 4)) + i % 2) :
    View.canon (⟨maxrow i n, w⟩ :: L) (i3 g s ρ hg hs hρ) = w (i3 0 s ρ Nat.one_pos hs hρ) :=
  canon_hit (s := S32x8x256) (i3 g s ρ hg hs hρ) (i3 0 s ρ Nat.one_pos hs hρ) fun (a : Fin 3) => by
    match a with
    | ⟨0, _⟩ => exact h
    | ⟨1, _⟩ => exact (Nat.zero_add s).symm
    | ⟨2, _⟩ => exact (Nat.zero_add ρ).symm

theorem max_miss {i n g s ρ : ℕ} {w : (maxrow i n).shape.Idx → EReal} {L : List (View.Piece (Elt Ideal) S32x8x256 .f32)}
    (hg : g < 32) (hs : s < 8) (hρ : ρ < 256) (h : g ≠ 2 * (i / 2 % 4 + 4 * (n % 4)) + i % 2) :
    View.canon (⟨maxrow i n, w⟩ :: L) (i3 g s ρ hg hs hρ) = View.canon L (i3 g s ρ hg hs hρ) :=
  canon_miss _ 0 (by
    show g < 2 * (i / 2 % 4 + 4 * (n % 4)) + i % 2 ∨ 2 * (i / 2 % 4 + 4 * (n % 4)) + i % 2 + 1 ≤ g
    omega)

theorem canon_ms (g s ρ : ℕ) (hg : g < 32) (hs : s < 8) (hρ : ρ < 256) : ∀ I ≤ 8, 2 * (g / 2 % 4) + g % 2 < I →
    View.canon (ms H W m7 I) (i3 g s ρ hg hs hρ) = acc H W m7 (g / 8) (16 * (2 * (g / 2 % 4) + g % 2) + 16) (i2 s ρ hs hρ)
  | 0, _, h => absurd h (by omega)
  | i + 1, hi, h => by
    show View.canon (mstep i _ _ _ _ (ms H W m7 i)) _ = _
    unfold mstep
    by_cases he : 2 * (g / 2 % 4) + g % 2 = i
    · rw [he]
      rcases (by omega : g / 8 = 0 ∨ g / 8 = 1 ∨ g / 8 = 2 ∨ g / 8 = 3) with h | h | h | h <;> rw [h]
      · rw [max_miss hg hs hρ (by omega), max_miss hg hs hρ (by omega), max_miss hg hs hρ (by omega), max_hit hg hs hρ (by omega), cast_add]
      · rw [max_miss hg hs hρ (by omega), max_miss hg hs hρ (by omega), max_hit hg hs hρ (by omega), cast_add]
      · rw [max_miss hg hs hρ (by omega), max_hit hg hs hρ (by omega), cast_add]
      · rw [max_hit hg hs hρ (by omega), cast_add]
    · rw [max_miss hg hs hρ (by omega), max_miss hg hs hρ (by omega), max_miss hg hs hρ (by omega), max_miss hg hs hρ (by omega),
        canon_ms g s ρ hg hs hρ i (by omega) (by omega)]

/-- The maxima buffer at the end: entry `s` of group `g` bounds sixteen magnitudes. -/
theorem maxima_le (hP : Products H W Y) (g s ρ : ℕ) (y : EReal) (hg : g < 32) (hs : s < 8) (hρ : ρ < 256) :
    View.canon (ms H W m7 8) (i3 g s ρ hg hs hρ) ≤ y ↔
      ∀ t < 16, Below y (X2 Y (g / 2) (64 * (g % 2) + 128 * (t / 8) + 8 * (t % 8) + s) ρ) := by
  rw [canon_ms H W m7 g s ρ hg hs hρ 8 le_rfl (by omega)]
  have h := acc_le H W m7 Y hP (g / 8) (2 * (g / 2 % 4) + g % 2) s ρ y (by omega) (by omega) hs hρ 15 (by omega)
  rw [show (2 * (g / 2 % 4) + g % 2) / 2 + 4 * (g / 8) = g / 2 by omega, show (2 * (g / 2 % 4) + g % 2) % 2 = g % 2 by omega] at h
  exact h.trans ⟨fun h t ht => h t (by omega), fun h t ht => h t (by omega)⟩

end Cert.KernelIdeal.Body

end
-- ==== Proof.Codes.lean ====
/- From the planes and the maxima to the scales and the codes: if the plane buffer holds the rows `K ρ` in its channel order
   and the maxima buffer their magnitudes' bounds, the stored scales are the rows' scales (`canon_scs`) and the stored codes
   the rows' codes (`canon_cs`). -/
module

public import proofs.«01_k».proof.Proof.Planes

@[expose] public section

set_option maxRecDepth 16384

noncomputable section

namespace Cert.KernelIdeal.Body

open Cert.KernelIdeal Cert.KernelIdeal.Gen Idealize.ShloMosaic Idealize.ShloMosaic.TcCoe Idealize.SL.Sem Cert.Fwht

/-- The channel, within its plane, which row `r` of the plane buffer holds: first the even ones, then the odd. -/
def chan (r : ℕ) : ℕ := if r < 128 then 2 * r else 2 * (r - 128) + 1

theorem chan_lt (r : ℕ) (h : r < 256) : chan r < 256 := by unfold chan; split <;> omega

variable (K : ℕ → ℕ → EReal)

/-- The plane buffer holds the rows `K ρ`. -/
def Planes (L : List (View.Piece (Elt Ideal) S16x256x256 .f32)) : Prop :=
  ∀ p r ρ (hp : p < 16) (hr : r < 256) (hρ : ρ < 256), View.canon L (i3 p r ρ hp hr hρ) = K ρ (256 * p + chan r)

/-- The maxima buffer bounds them. -/
def Maxima (M : List (View.Piece (Elt Ideal) S32x8x256 .f32)) : Prop :=
  ∀ g s ρ (hg : g < 32) (hs : s < 8) (hρ : ρ < 256) (y : EReal), View.canon M (i3 g s ρ hg hs hρ) ≤ y ↔
    ∀ t < 16, Below y (K ρ (128 * g + (2 * (8 * (t % 8) + s) + t / 8)))

/-! ## The scales -/

theorem lift_max (h : S32x8x256.Reduces [1] S32x256) (g ρ : ℕ) (hg : g < 32) (hρ : ρ < 256) (s : Fin 8) :
    h.lift (i2 g ρ hg hρ) s = (i3 g s.val ρ hg s.isLt hρ : S32x8x256.Idx) := by
  funext a
  match a with
  | ⟨0, _⟩ => exact Fin.ext rfl
  | ⟨1, _⟩ => exact Fin.ext rfl
  | ⟨2, _⟩ => exact Fin.ext rfl

theorem max_fold_le {ι : Type} (s : Finset ι) (f : ι → EReal) (b y : EReal) : s.fold max b f ≤ y ↔ b ≤ y ∧ ∀ i ∈ s, f i ≤ y :=
  Finset.fold_max_le y

/-- The eight bounds' maximum. -/
def rowmax (x : FVec Ideal S32x8x256 .f32) : S32x256.Idx → EReal :=
  multiReduction (F := Ideal) .maximumf [1] S32x256 x 0xFF800000#32 reduces_S32x8x256_S32x256 (.inl rfl) rfl

theorem rowmax_eq (x : FVec Ideal S32x8x256 .f32) (j : S32x256.Idx) : rowmax x j = (Finset.univ : Finset (Fin (S32x8x256.size 1))).fold max
    (FloatOps.ofBits (F := Ideal) .f32 0xFF800000#32) (x ∘ reduces_S32x8x256_S32x256.lift j) :=
  Ideal.multiReduction_maximumf_single x 0xFF800000#32 reduces_S32x8x256_S32x256 (.inl rfl) rfl j

/-- The choice of a scale, and a reciprocal, at an index. -/
theorem scale_point {s : Shape} (m : FVec Ideal s .f32) (j : s.Idx) :
    select (cmpf .oeq m (broadcast s (Scalar.ofBits .f32 0x00000000#32))) (broadcast s (Scalar.ofBits .f32 0x3F800000#32))
      (divf m (broadcast s (Scalar.ofBits .f32 0x40E00000#32))) j = scaleOf (m j) := by
  show Scalar.select (BitVec.ofBool (decide ((m j : EReal) = Ideal.ofBits .f32 0x00000000#32))) (Ideal.ofBits .f32 0x3F800000#32)
    (Ideal.div (m j) (Ideal.ofBits .f32 0x40E00000#32)) = _
  rw [Ideal.ofBits_zero_f32, const_1, const_7]
  unfold scaleOf
  generalize m j = a
  by_cases h : (a : EReal) = 0
  · rw [if_pos h, decide_eq_true h]; rfl
  · rw [if_neg h, decide_eq_false h]; rfl

theorem inv_point {s : Shape} (m : FVec Ideal s .f32) (j : s.Idx) :
    divf (broadcast s (Scalar.ofBits .f32 0x3F800000#32)) m j = Ideal.div ((1 : ℝ) : EReal) (m j) := by
  show Ideal.div (Ideal.ofBits .f32 0x3F800000#32) (m j) = _
  rw [const_1, EReal.coe_one]

theorem rowmax_le (x : Vec Ideal S32x8x256 .f32) (g ρ : ℕ) (hg : g < 32) (hρ : ρ < 256) (y : EReal) :
    rowmax x (i2 g ρ hg hρ) ≤ y
      ↔ ∀ s (hs : s < 8), x (i3 g s ρ hg hs hρ) ≤ y := by
  rw [rowmax_eq, max_fold_le]
  refine ⟨fun h s hs => ?_, fun h => ⟨?_, fun s _ => ?_⟩⟩
  · exact (congrArg x (lift_max reduces_S32x8x256_S32x256 g ρ hg hρ ⟨s, hs⟩)).symm.le.trans (h.2 ⟨s, hs⟩ (Finset.mem_univ (α := Fin (S32x8x256.size 1)) ⟨s, hs⟩))
  · rw [show (FloatOps.ofBits .f32 0xFF800000#32 : Ideal .f32) = (⊥ : EReal) from const_bot]
    exact bot_le
  · exact (congrArg x (lift_max reduces_S32x8x256_S32x256 g ρ hg hρ s)).le.trans (h s.val s.isLt)

theorem scale_apply (x : Vec Ideal S32x8x256 .f32) (g ρ : ℕ) (hg : g < 32) (hρ : ρ < 256)
    (hx : ∀ y, (∀ s (hs : s < 8), x (i3 g s ρ hg hs hρ) ≤ y) ↔ amax (K ρ) g ≤ y) :
    k0_pay2662 x (i2 g ρ hg hρ) = scaleAt (K ρ) g := by
  have ha : rowmax x (i2 g ρ hg hρ) = amax (K ρ) g := eq_of_forall_ge_iff fun y => (rowmax_le x g ρ hg hρ y).trans (hx y)
  unfold scaleAt
  rw [← ha]
  exact scale_point (rowmax x) (i2 g ρ hg hρ)

variable (m7 : Memref sig .tc .vmem S16x256x256 .f32) (m9 : Memref sig .tc .vmem S32x8x256 .f32) (m10 : Memref sig .tc .vmem S32x256 .f32)
variable {L : List (View.Piece (Elt Ideal) S16x256x256 .f32)} {M : List (View.Piece (Elt Ideal) S32x8x256 .f32)}

theorem maxAll_scale (hM : Maxima K M) (g ρ : ℕ) (hg : g < 32) (hρ : ρ < 256) : k0_pay2662 (maxAll m9 M) (i2 g ρ hg hρ) = scaleAt (K ρ) g := by
  refine scale_apply K _ g ρ hg hρ fun y => ?_
  rw [amax_le_iff]
  have hr : ∀ s (hs : s < 8), maxAll m9 M (i3 g s ρ hg hs hρ) = View.canon M (i3 g s ρ hg hs hρ) := fun s hs =>
    readCov_at m9 M _ _ fun (a : Fin 3) => by
      match a with
      | ⟨0, _⟩ => exact (Nat.zero_add g).symm
      | ⟨1, _⟩ => exact (Nat.zero_add s).symm
      | ⟨2, _⟩ => exact (Nat.zero_add ρ).symm
  refine ⟨fun h c hc => ?_, fun h s hs => ?_⟩
  · have h2 := h (c / 2 % 8) (by omega)
    rw [hr, hM] at h2
    have h3 := h2 (8 * (c % 2) + c / 2 / 8) (by omega)
    rw [show 2 * (8 * ((8 * (c % 2) + c / 2 / 8) % 8) + c / 2 % 8) + (8 * (c % 2) + c / 2 / 8) / 8 = c by omega] at h3
    exact h3
  · rw [hr, hM]
    exact fun t ht => h _ (by omega)

/-- The stored scales. -/
theorem canon_scs (hM : Maxima K M) (ρ g : ℕ) (hρ : ρ < 256) (hg : g < 32) : View.canon (scs m9 M) (i2 ρ g hρ hg) = scaleAt (K ρ) g := by
  unfold scs
  refine (canon_hit (s := S256x32) (off := ![0, 0]) (size := S256x32.size) (i2 ρ g hρ hg) (i2 ρ g hρ hg) fun (a : Fin 2) => by
    match a with
    | ⟨0, _⟩ => exact (Nat.zero_add ρ).symm
    | ⟨1, _⟩ => exact (Nat.zero_add g).symm).trans ?_
  unfold k0_pay2664
  rw [← maxAll_scale K m9 hM g ρ hg hρ]
  exact transpose_apply _ _ _ _ _ fun (b : Fin 2) => by
    match b with
    | ⟨0, _⟩ => rfl
    | ⟨1, _⟩ => rfl

/-- The stored reciprocals. -/
theorem canon_invs (hM : Maxima K M) (g ρ : ℕ) (hg : g < 32) (hρ : ρ < 256) :
    View.canon (invs m9 M) (i2 g ρ hg hρ) = Ideal.div ((1 : ℝ) : EReal) (scaleAt (K ρ) g) := by
  unfold invs
  refine (canon_hit (s := S32x256) (off := ![0, 0]) (size := S32x256.size) (i2 g ρ hg hρ) (i2 g ρ hg hρ) fun (a : Fin 2) => by
    match a with
    | ⟨0, _⟩ => exact (Nat.zero_add g).symm
    | ⟨1, _⟩ => exact (Nat.zero_add ρ).symm).trans ?_
  unfold k0_pay2663
  rw [← maxAll_scale K m9 hM g ρ hg hρ]
  refine (congrFun (shapeCast_self _ shapeCasts_S32x256_S32x256) _).trans (inv_point _ _)

/-! ## The codes -/

/-- The code of channel `2 j + h` of row `ρ`. -/
def codeK (h j ρ : ℕ) : ℤ := codeZ (K ρ (2 * j + h)) (scaleAt (K ρ) (j / 64))

theorem code_hit {h b g d j ρ : ℕ} {w : (code h b g).shape.Idx → EReal} {C : List (View.Piece (Elt Ideal) S2x2048x256 .bf16)} {q : ℕ}
    (hd : d < 2) (hj : j < 2048) (hρ : ρ < 256) (hq : q < 64) (h0 : d = h % 2) (h1 : j = 128 * (b % 16) + 64 * (g % 2) + q) :
    View.canon (⟨code h b g, w⟩ :: C) (i3 d j ρ hd hj hρ) = w (i3 0 q ρ Nat.one_pos hq hρ) :=
  canon_hit (s := S2x2048x256) (i3 d j ρ hd hj hρ) (i3 0 q ρ Nat.one_pos hq hρ) fun (a : Fin 3) => by
    match a with
    | ⟨0, _⟩ => exact h0
    | ⟨1, _⟩ => exact h1
    | ⟨2, _⟩ => exact (Nat.zero_add ρ).symm

theorem code_miss {h b g d j ρ : ℕ} {w : (code h b g).shape.Idx → EReal} {C : List (View.Piece (Elt Ideal) S2x2048x256 .bf16)}
    (hd : d < 2) (hj : j < 2048) (hρ : ρ < 256) (hn : d ≠ h % 2 ∨ j / 64 ≠ 2 * (b % 16) + g % 2) :
    View.canon (⟨code h b g, w⟩ :: C) (i3 d j ρ hd hj hρ) = View.canon C (i3 d j ρ hd hj hρ) := by
  rcases hn with hn | hn
  · exact canon_miss _ 0 (by show d < h % 2 ∨ h % 2 + 1 ≤ d; omega)
  · exact canon_miss _ 1 (by show j < 128 * (b % 16) + 64 * (g % 2) ∨ 128 * (b % 16) + 64 * (g % 2) + 64 ≤ j; omega)

theorem codePay_apply (v : Vec Ideal S1x256 .f32) (x : Vec Ideal S1x64x256 .f32) (q ρ : ℕ) (hq : q < 64) (hρ : ρ < 256) :
    codePay v x (i3 0 q ρ Nat.one_pos hq hρ) = clampRound ((x (i3 0 q ρ Nat.one_pos hq hρ) : EReal) * (v (i2 0 ρ Nat.one_pos hρ) : EReal)) := by
  unfold codePay
  rw [cast_add]
  show min (max (Ideal.liftRound Ideal.roundHalfEven ((shapeCast S64x256 x shapeCasts_S1x64x256_S64x256 (i2 q ρ hq hρ) : EReal)
    * (broadcastTo S64x256 v broadcasts_S1x256_S64x256 (i2 q ρ hq hρ) : EReal))) (Ideal.ofBits .bf16 0xC0E0#16)) (Ideal.ofBits .bf16 0x40E0#16) = _
  rw [cast_drop, const_b7, const_bneg7, broadcastTo_apply v _ _ (i2 0 ρ Nat.one_pos hρ) fun (a : Fin 2) => by
    match a with
    | ⟨0, _⟩ => rfl
    | ⟨1, _⟩ => rfl]
  rfl

/-- The stored codes. -/
theorem canon_cs (hL : Planes K L) (hM : Maxima K M) (d j ρ : ℕ) (hd : d < 2) (hj : j < 2048) (hρ : ρ < 256) : ∀ n ≤ 64,
    4 * (j / 128) + 2 * d + j / 64 % 2 < n →
    View.canon (cs m7 m10 L (invs m9 M) n) (i3 d j ρ hd hj hρ) = ((codeK K d j ρ : ℝ) : EReal)
  | 0, _, h => absurd h (by omega)
  | i + 1, hi, h => by
    show View.canon (⟨code (i / 2) (i / 4) i, codePay (m10.view.readCov (invs m9 M) (invrow (i / 4) i).toLoadRect)
      (m7.view.readCov L (half (i / 2) (i / 4) i).toLoadRect)⟩ :: cs m7 m10 L (invs m9 M) i) _ = _
    by_cases he : 4 * (j / 128) + 2 * d + j / 64 % 2 = i
    · have hq : j % 64 < 64 := by omega
      rw [code_hit hd hj hρ hq (by omega) (by omega), codePay_apply]
      have h1 : m10.view.readCov (invs m9 M) (invrow (i / 4) i).toLoadRect (i2 0 ρ Nat.one_pos hρ)
          = View.canon (invs m9 M) (i2 (j / 64) ρ (by omega) hρ) := readCov_at m10 _ _ _ fun (a : Fin 2) => by
        match a with
        | ⟨0, _⟩ => show j / 64 = 2 * (i / 4 % 16) + i % 2 + 0; omega
        | ⟨1, _⟩ => exact (Nat.zero_add ρ).symm
      have h2 : m7.view.readCov L (half (i / 2) (i / 4) i).toLoadRect (i3 0 (j % 64) ρ Nat.one_pos hq hρ)
          = View.canon L (i3 (j / 128) (128 * d + j % 128) ρ (by omega) (by omega) hρ) := readCov_at m7 _ _ _ fun (a : Fin 3) => by
        match a with
        | ⟨0, _⟩ => show j / 128 = i / 4 % 16 + 0; omega
        | ⟨1, _⟩ => show 128 * d + j % 128 = 128 * (i / 2 % 2) + 64 * (i % 2) + j % 64; omega
        | ⟨2, _⟩ => exact (Nat.zero_add ρ).symm
      rw [h1, h2, canon_invs K m9 hM, hL, mul_div_one (scaleAt_ne_zero _ _),
        show 256 * (j / 128) + chan (128 * d + j % 128) = 2 * j + d by unfold chan; split <;> omega]
      exact codeOf_eq _ _
    · rw [code_miss hd hj hρ (by omega), canon_cs hL hM d j ρ hd hj hρ i (by omega) (by omega)]

end Cert.KernelIdeal.Body

end
-- ==== Proof.Bits.lean ====
/- The words the kernel packs. A half word is an integer of four codes at places 1, 16, 256 and 4096; biased, shifted,
   joined and unbiased by one exclusive or, it gives back the four codes as nibbles (`word_byte`). -/
module

public import proofs.«01_k».proof.Proof.Quant
public import Mathlib.Tactic.IntervalCases

@[expose] public section

namespace Cert.Fwht

/-- A half word, of two codes of one parity and two of the other. -/
def halfOf (a b c d : ℤ) : ℤ := (a + 256 * b) + (16 * c + 4096 * d)

/-- Its value with each code raised by eight. -/
def raised (a b c d : ℤ) : ℕ := ((a + 8) + 16 * (c + 8) + 256 * ((b + 8) + 16 * (d + 8))).toNat

/-- A code. -/
def IsCode (n : ℤ) : Prop := -7 ≤ n ∧ n ≤ 7

theorem bias_eq {a b c d : ℤ} (ha : IsCode a) (hb : IsCode b) (hc : IsCode c) (hd : IsCode d) :
    BitVec.ofInt 32 (halfOf a b c d) + 1262520456#32 = BitVec.ofNat 32 (19264 * 2 ^ 16 + raised a b c d) ∧ raised a b c d < 2 ^ 16 := by
  obtain ⟨a1, a2⟩ := ha; obtain ⟨b1, b2⟩ := hb; obtain ⟨c1, c2⟩ := hc; obtain ⟨d1, d2⟩ := hd
  have hr : ((raised a b c d : ℕ) : ℤ) = (a + 8) + 16 * (c + 8) + 256 * ((b + 8) + 16 * (d + 8)) := Int.toNat_of_nonneg (by omega)
  refine ⟨?_, by omega⟩
  rw [show (1262520456#32) = BitVec.ofInt 32 1262520456 from rfl, ← BitVec.ofInt_add, ← BitVec.ofInt_natCast]
  congr 1
  unfold halfOf
  push_cast
  rw [hr]
  ring

theorem top_bit (t A i : ℕ) (hA : A < 2 ^ 16) (hi : i < 32) :
    (BitVec.ofNat 32 (t * 2 ^ 16 + A)).getLsbD i = if i < 16 then A.testBit i else t.testBit (i - 16) := by
  rw [BitVec.getLsbD_ofNat, decide_eq_true hi, Bool.true_and, Nat.mul_comm, Nat.testBit_two_pow_mul_add _ hA]

/-- The word's bits. -/
theorem word_bit (A B i : ℕ) (hA : A < 2 ^ 16) (hB : B < 2 ^ 16) (hi : i < 32) :
    ((BitVec.ofNat 32 (19264 * 2 ^ 16 + A) ^^^ (BitVec.ofNat 32 (19264 * 2 ^ 16 + B) <<< 16)) ^^^ 3284699272#32).getLsbD i
      = if i < 16 then A.testBit i ^^ Nat.testBit 0x8888 i else B.testBit (i - 16) ^^ Nat.testBit 0x8888 (i - 16) := by
  rw [BitVec.getLsbD_xor, BitVec.getLsbD_xor, BitVec.getLsbD_shiftLeft, top_bit _ _ _ hA hi, decide_eq_true hi, Bool.true_and]
  by_cases h : i < 16
  · rw [if_pos h, if_pos h, decide_eq_true h, Bool.not_true, Bool.false_and, Bool.xor_false]
    congr 1
    interval_cases i <;> rfl
  · rw [if_neg h, if_neg h, decide_eq_false h, Bool.not_false, Bool.true_and, top_bit _ _ _ hB (by omega), if_pos (by omega),
      Bool.xor_comm (Nat.testBit 19264 _), Bool.xor_assoc]
    congr 1
    interval_cases i <;> first | rfl | (exfalso; omega)

theorem nibbles : ∀ a b : Fin 16, 1 ≤ a.val → 1 ≤ b.val → ∀ q : Fin 8,
    (Nat.testBit (a.val + 16 * b.val) q.val ^^ Nat.testBit 0x88 q.val) = (byteOf (a.val - 8) (b.val - 8)).getLsbD q.val := by decide

theorem nibbles_int {a c : ℤ} (ha : IsCode a) (hc : IsCode c) (q : ℕ) (hq : q < 8) :
    (Nat.testBit ((a + 8) + 16 * (c + 8)).toNat q ^^ Nat.testBit 0x88 q) = (byteOf a c).getLsbD q := by
  obtain ⟨a1, a2⟩ := ha; obtain ⟨c1, c2⟩ := hc
  have h := nibbles ⟨(a + 8).toNat, by omega⟩ ⟨(c + 8).toNat, by omega⟩ (by show 1 ≤ (a + 8).toNat; omega) (by show 1 ≤ (c + 8).toNat; omega) ⟨q, hq⟩
  simp only at h
  rw [show (((a + 8).toNat : ℕ) : ℤ) - 8 = a by omega, show (((c + 8).toNat : ℕ) : ℤ) - 8 = c by omega,
    show (a + 8).toNat + 16 * (c + 8).toNat = ((a + 8) + 16 * (c + 8)).toNat by omega] at h
  exact h

theorem low_bit (x y q : ℕ) (hx : x < 2 ^ 8) (hq : q < 8) : Nat.testBit (x + 256 * y) q = Nat.testBit x q := by
  rw [show x + 256 * y = 2 ^ 8 * y + x by ring, Nat.testBit_two_pow_mul_add _ hx, if_pos hq]
theorem high_bit (x y q : ℕ) (hx : x < 2 ^ 8) : Nat.testBit (x + 256 * y) (8 + q) = Nat.testBit y q := by
  rw [show x + 256 * y = 2 ^ 8 * y + x by ring, Nat.testBit_two_pow_mul_add _ hx, if_neg (by omega), Nat.add_sub_cancel_left]

theorem mask_low : ∀ q : Fin 8, Nat.testBit 0x8888 q.val = Nat.testBit 0x88 q.val ∧ Nat.testBit 0x8888 (8 + q.val) = Nat.testBit 0x88 q.val := by decide

/-- A half word's low and high byte. -/
theorem half_bit {a b c d : ℤ} (ha : IsCode a) (hb : IsCode b) (hc : IsCode c) (hd : IsCode d) (q : ℕ) (hq : q < 8) :
    (Nat.testBit (raised a b c d) q ^^ Nat.testBit 0x8888 q) = (byteOf a c).getLsbD q ∧
    (Nat.testBit (raised a b c d) (8 + q) ^^ Nat.testBit 0x8888 (8 + q)) = (byteOf b d).getLsbD q := by
  have hr : raised a b c d = ((a + 8) + 16 * (c + 8)).toNat + 256 * ((b + 8) + 16 * (d + 8)).toNat := by
    obtain ⟨a1, a2⟩ := ha; obtain ⟨b1, b2⟩ := hb; obtain ⟨c1, c2⟩ := hc; obtain ⟨d1, d2⟩ := hd
    unfold raised; omega
  have hx : ((a + 8) + 16 * (c + 8)).toNat < 2 ^ 8 := by
    obtain ⟨a1, a2⟩ := ha; obtain ⟨c1, c2⟩ := hc
    omega
  have hm := mask_low ⟨q, hq⟩
  refine ⟨?_, ?_⟩
  · rw [hr, low_bit _ _ _ hx hq, ← nibbles_int ha hc q hq, hm.1]
  · rw [hr, high_bit _ _ _ hx, ← nibbles_int hb hd q hq, hm.2]

/-- The word of eight codes: its byte `β` holds the codes of row `β` of four. -/
theorem word_byte (Z0 Z1 : ℕ → ℤ) (h0 : ∀ k, IsCode (Z0 k)) (h1 : ∀ k, IsCode (Z1 k)) (p β q : ℕ) (hβ : β < 4) (hq : q < 8) :
    (((BitVec.ofInt 32 (halfOf (Z0 p) (Z0 (p + 1)) (Z1 p) (Z1 (p + 1))) + 1262520456#32)
      ^^^ ((BitVec.ofInt 32 (halfOf (Z0 (p + 2)) (Z0 (p + 3)) (Z1 (p + 2)) (Z1 (p + 3))) + 1262520456#32) <<< 16)) ^^^ 3284699272#32).getLsbD (8 * β + q)
      = (byteOf (Z0 (p + β)) (Z1 (p + β))).getLsbD q := by
  obtain ⟨e1, b1⟩ := bias_eq (h0 p) (h0 (p + 1)) (h1 p) (h1 (p + 1))
  obtain ⟨e2, b2⟩ := bias_eq (h0 (p + 2)) (h0 (p + 3)) (h1 (p + 2)) (h1 (p + 3))
  obtain ⟨l1, l2⟩ := half_bit (h0 p) (h0 (p + 1)) (h1 p) (h1 (p + 1)) q hq
  obtain ⟨l3, l4⟩ := half_bit (h0 (p + 2)) (h0 (p + 3)) (h1 (p + 2)) (h1 (p + 3)) q hq
  rw [e1, e2, word_bit _ _ _ b1 b2 (by omega)]
  rcases (by omega : β = 0 ∨ β = 1 ∨ β = 2 ∨ β = 3) with rfl | rfl | rfl | rfl
  · rw [if_pos (by omega), show 8 * 0 + q = q by omega]; exact l1
  · rw [if_pos (by omega), show 8 * 1 + q = 8 + q by omega]; exact l2
  · rw [if_neg (by omega), show 8 * 2 + q - 16 = q by omega]; exact l3
  · rw [if_neg (by omega), show 8 * 3 + q - 16 = 8 + q by omega]; exact l4

end Cert.Fwht
-- ==== Proof.Bytes.lean ====
/- From the codes to the stored bytes: the packing matrices gather four codes into a half word (`halves_apply`), and each stored
   byte holds the two codes of its column and row (`canon_ws`). -/
module

public import proofs.«01_k».proof.Proof.Codes
public import proofs.«01_k».proof.Proof.Bits
public import Idealize.ShloMosaic.Lib.MatmulPlain
public import Idealize.ShloMosaic.Lib.BitcastPair

@[expose] public section

set_option maxRecDepth 16384

noncomputable section

namespace Cert.KernelIdeal.Body

open Cert.KernelIdeal Cert.KernelIdeal.Gen Idealize.ShloMosaic Idealize.ShloMosaic.TcCoe Idealize.SL.Sem Cert.Fwht

/-! ## Products of integer matrices -/

theorem coe_sum {ι : Type} (s : Finset ι) (f : ι → ℤ) : ∑ k ∈ s, (((f k : ℤ) : ℝ) : EReal) = (((∑ k ∈ s, f k : ℤ) : ℝ) : EReal) := by
  classical
  induction s using Finset.induction_on with
  | empty => simp
  | insert a s ha ih =>
    rw [Finset.sum_insert ha, Finset.sum_insert ha, ih]
    push_cast
    rfl

theorem coe_mul_int (a b : ℤ) : (((a : ℝ) : EReal)) * ((b : ℝ) : EReal) = (((a * b : ℤ) : ℝ) : EReal) := by
  push_cast; rfl

theorem coe_add_int (a b : ℤ) : (((a : ℝ) : EReal)) + ((b : ℝ) : EReal) = (((a + b : ℤ) : ℝ) : EReal) := by
  push_cast; rfl

/-- The first row a half word's row takes codes from. -/
def posOf (m : ℕ) : ℕ := m / 16 * 32 + m % 8 * 4 + m / 8 % 2 * 2

/-- The selection matrix. -/
def selZ (m k : ℕ) : ℤ := if k = posOf m then 1 else if k = posOf m + 1 then 256 else 0

theorem sel_sum (m : ℕ) (hm : m < 128) (Z : ℕ → ℤ) : ∑ k : Fin 256, selZ m k.val * Z k.val = Z (posOf m) + 256 * Z (posOf m + 1) := by
  rw [Fin.sum_univ_eq_sum_range (fun k => selZ m k * Z k)]
  have h : ∀ k ∈ Finset.range 256, selZ m k * Z k = (if k = posOf m then Z k else 0) + (if k = posOf m + 1 then 256 * Z k else 0) := fun k _ => by
    unfold selZ
    by_cases h1 : k = posOf m
    · rw [if_pos h1, if_pos h1, if_neg (by omega)]; ring
    · rw [if_neg h1, if_neg h1]
      by_cases h2 : k = posOf m + 1
      · rw [if_pos h2, if_pos h2]; ring
      · rw [if_neg h2, if_neg h2]; ring
  have hp : posOf m + 1 < 256 := by unfold posOf; omega
  rw [Finset.sum_congr rfl h, Finset.sum_add_distrib, Finset.sum_ite_eq', Finset.sum_ite_eq', if_pos (Finset.mem_range.2 (by omega)),
    if_pos (Finset.mem_range.2 hp)]

theorem ix2_eq {m n : ℕ} (a b : ℕ) (ha : a < m) (hb : b < n) : i2 a b ha hb = (ValueIdx.ix2 (⟨a, ha⟩ : Fin m) (⟨b, hb⟩ : Fin n)) := by
  funext x
  match x with
  | ⟨0, _⟩ => rfl
  | ⟨1, _⟩ => rfl

/-- A matrix read over the integers. -/
theorem pdot_apply (P : Vec Ideal S1x128x256 .bf16) (c : Vec Ideal S1x256x256 .bf16) (p z : ℕ → ℤ) (m j : ℕ) (hm : m < 128) (hj : j < 256)
    (hP : ∀ k (hk : k < 256), (P (i3 0 m k Nat.one_pos hm hk) : EReal) = ((p k : ℝ) : EReal))
    (hc : ∀ k (hk : k < 256), (c (i3 0 j k Nat.one_pos hj hk) : EReal) = ((z k : ℝ) : EReal)) :
    (pdot P c (i2 m j hm hj) : EReal) = (((∑ k : Fin 256, p k.val * z k.val : ℤ) : ℝ) : EReal) := by
  have e := Ideal.matmul_transposedRhs_apply (φ₁ := .bf16) (φ₂ := .bf16) none (shapeCast S128x256 P shapeCasts_S1x128x256_S128x256)
    (shapeCast S256x256 c shapeCasts_S1x256x256_S256x256) (constant (F := Ideal) S128x256 .f32 0x00000000#32) (⟨m, hm⟩ : Fin 128) (⟨j, hj⟩ : Fin 256)
  rw [← coe_sum]
  refine Eq.trans ?_ (e.trans ?_)
  · unfold pdot
    exact congrArg (FloatOps.matmul (F := Ideal) _ _ _ _ _) (ix2_eq m j hm hj)
  · rw [show (constant (F := Ideal) S128x256 .f32 0x00000000#32 (ValueIdx.ix2 (⟨m, hm⟩ : Fin 128) (⟨j, hj⟩ : Fin 256)) : EReal) = 0 from Ideal.ofBits_zero_f32,
      zero_add]
    refine Finset.sum_congr rfl fun k _ => ?_
    rw [← coe_mul_int, ← hP k.val k.isLt, ← hc k.val k.isLt]
    exact congrArg₂ (fun x y : EReal => x * y)
      ((congrArg (shapeCast S128x256 P shapeCasts_S1x128x256_S128x256) (i2_eq (m := 128) (n := 256) _)).trans (cast_drop P _ m k.val hm k.isLt))
      ((congrArg (shapeCast S256x256 c shapeCasts_S1x256x256_S256x256) (i2_eq (m := 256) (n := 256) _)).trans (cast_drop c _ j k.val hj k.isLt))

/-- The packing matrices select, the second sixteen times as much. -/
def Packs (P0 P1 : Vec Ideal S1x128x256 .bf16) : Prop := ∀ m k (hm : m < 128) (hk : k < 256),
  (P0 (i3 0 m k Nat.one_pos hm hk) : EReal) = ((selZ m k : ℝ) : EReal) ∧ (P1 (i3 0 m k Nat.one_pos hm hk) : EReal) = (((16 * selZ m k : ℤ) : ℝ) : EReal)

theorem halves_apply {P0 P1 : Vec Ideal S1x128x256 .bf16} (hP : Packs P0 P1) (c0 c1 : Vec Ideal S1x256x256 .bf16) (Z0 Z1 : ℕ → ℤ) (m j : ℕ)
    (hm : m < 128) (hj : j < 256) (h0 : ∀ k (hk : k < 256), (c0 (i3 0 j k Nat.one_pos hj hk) : EReal) = ((Z0 k : ℝ) : EReal))
    (h1 : ∀ k (hk : k < 256), (c1 (i3 0 j k Nat.one_pos hj hk) : EReal) = ((Z1 k : ℝ) : EReal)) :
    (halves P0 P1 c0 c1 (i2 m j hm hj) : EReal) = ((halfOf (Z0 (posOf m)) (Z0 (posOf m + 1)) (Z1 (posOf m)) (Z1 (posOf m + 1)) : ℝ) : EReal) := by
  show (pdot P0 c0 (i2 m j hm hj) : EReal) + (pdot P1 c1 (i2 m j hm hj) : EReal) = _
  rw [pdot_apply P0 c0 (selZ m) Z0 m j hm hj (fun k hk => (hP m k hm hk).1) h0,
    pdot_apply P1 c1 (fun k => 16 * selZ m k) Z1 m j hm hj (fun k hk => (hP m k hm hk).2) h1, coe_add_int]
  have e : ∑ k : Fin 256, 16 * selZ m k.val * Z1 k.val = 16 * ∑ k : Fin 256, selZ m k.val * Z1 k.val := by
    rw [Finset.mul_sum]; exact Finset.sum_congr rfl fun k _ => by ring
  rw [e, sel_sum m hm, sel_sum m hm]
  congr 2
  unfold halfOf
  ring

/-! ## Words and bytes -/

theorem biased_apply (f : FVec Ideal S128x256 .f32) (r : ℕ) (hr : r ≤ 120) (s j : ℕ) (hs : s < 8) (hj : j < 256) (n : ℤ)
    (hf : (f (i2 (r + s) j (by omega) hj) : EReal) = ((n : ℝ) : EReal)) (h1 : -65536 ≤ n) (h2 : n ≤ 65536) :
    biased f r hr (i2 s j hs hj) = BitVec.ofInt 32 n + 1262520456#32 := by
  have e : extractStridedSlice S8x256 ![r, 0] f (slices_word r hr) (i2 s j hs hj) = f (i2 (r + s) j (by omega) hj) :=
    extractStridedSlice_apply _ _ _ _ _ fun (a : Fin 2) => by
      match a with
      | ⟨0, _⟩ => rfl
      | ⟨1, _⟩ => exact (Nat.zero_add j).symm
  show Ideal.fptosi 32 (extractStridedSlice S8x256 ![r, 0] f (slices_word r hr) (i2 s j hs hj)) + 1262520456#32 = _
  rw [e, hf, fptosi_int n h1 h2]

/-- A byte of four words' rows is a byte of a word. -/
theorem byte_bit (x : IVec S8x256 32) (r j q : ℕ) (hr : r < 32) (hj : j < 256) (hq : q < 8) :
    (bitcast S32x256 8 x bitcasts_S8x256_w32_S32x256_w8 (i2 r j hr hj)).getLsbD q = (x (i2 (r / 4) j (by omega) hj)).getLsbD (8 * (r % 4) + q) := by
  rw [bitcast_getLsbD x bitcasts_S8x256_w32_S32x256_w8 _ q hq (by decide)]
  have hrow : Shape.row S32x256 (i2 r j hr hj) = r := rfl
  rw [show (Shape.row S32x256 (i2 r j hr hj) * 8 + q) % 32 = 8 * (r % 4) + q by rw [hrow]; omega]
  congr 2
  funext (a : Fin 2)
  match a with
  | ⟨0, _⟩ => exact Fin.ext ((bitcasts_S8x256_w32_S32x256_w8.srcIdx_row _ _ _ ⟨0, Nat.zero_lt_two⟩ rfl).trans (by
      show (Shape.row S32x256 (i2 r j hr hj) * 8 + q) / 32 = r / 4; rw [hrow]; omega))
  | ⟨1, _⟩ => exact Fin.ext (bitcasts_S8x256_w32_S32x256_w8.srcIdx_other _ _ _ ⟨1, Nat.one_lt_two⟩ (by show ¬ 1 + 2 = 2; omega))

theorem half_range {a b c d : ℤ} (ha : IsCode a) (hb : IsCode b) (hc : IsCode c) (hd : IsCode d) :
    -65536 ≤ halfOf a b c d ∧ halfOf a b c d ≤ 65536 := by
  obtain ⟨a1, a2⟩ := ha; obtain ⟨b1, b2⟩ := hb; obtain ⟨c1, c2⟩ := hc; obtain ⟨d1, d2⟩ := hd
  unfold halfOf; omega

theorem bytePay_apply (f : FVec Ideal S128x256 .f32) (Z0 Z1 : ℕ → ℤ) (h0 : ∀ k, IsCode (Z0 k)) (h1 : ∀ k, IsCode (Z1 k)) (z r j : ℕ) (hr : r < 32) (hj : j < 256)
    (hf : ∀ m (hm : m < 128), (f (i2 m j hm hj) : EReal) = ((halfOf (Z0 (posOf m)) (Z0 (posOf m + 1)) (Z1 (posOf m)) (Z1 (posOf m + 1)) : ℝ) : EReal)) :
    bytePay f z (i2 r j hr hj) = byteOf (Z0 (32 * (z % 8) + r)) (Z1 (32 * (z % 8) + r)) := by
  refine BitVec.eq_of_getLsbD_eq fun q hq => ?_
  unfold bytePay
  rw [byte_bit _ r j q hr hj hq]
  have hl := biased_apply f (16 * (z % 8)) (by omega) (r / 4) j (by omega) hj _ (hf _ (by omega))
    (half_range (h0 _) (h0 _) (h1 _) (h1 _)).1 (half_range (h0 _) (h0 _) (h1 _) (h1 _)).2
  have hh := biased_apply f (16 * (z % 8) + 8) (by omega) (r / 4) j (by omega) hj _ (hf _ (by omega))
    (half_range (h0 _) (h0 _) (h1 _) (h1 _)).1 (half_range (h0 _) (h0 _) (h1 _) (h1 _)).2
  rw [show posOf (16 * (z % 8) + r / 4) = 32 * (z % 8) + 4 * (r / 4) by unfold posOf; omega] at hl
  rw [show posOf (16 * (z % 8) + 8 + r / 4) = 32 * (z % 8) + 4 * (r / 4) + 2 by unfold posOf; omega] at hh
  show ((biased f (16 * (z % 8)) _ (i2 (r / 4) j _ hj) ^^^ (biased f (16 * (z % 8) + 8) _ (i2 (r / 4) j _ hj) <<< 16)) ^^^ 3284699272#32).getLsbD _ = _
  rw [hl, hh, word_byte Z0 Z1 h0 h1 _ (r % 4) q (by omega) hq, show 32 * (z % 8) + 4 * (r / 4) + r % 4 = 32 * (z % 8) + r by omega]

/-! ## The bytes stored -/

variable (K : ℕ → ℕ → EReal) (m8 : Memref sig .tc .vmem S2x2048x256 .bf16)

theorem codeK_isCode (h j ρ : ℕ) : IsCode (codeK K h j ρ) := ⟨codeZ_ge _ _, codeZ_le _ _⟩

/-- The codes' buffer holds the rows' codes. -/
def CodesHeld (C : List (View.Piece (Elt Ideal) S2x2048x256 .bf16)) : Prop := ∀ d j ρ (hd : d < 2) (hj : j < 2048) (hρ : ρ < 256),
  View.canon C (i3 d j ρ hd hj hρ) = ((codeK K d j ρ : ℝ) : EReal)

theorem ccols_apply {C : List (View.Piece (Elt Ideal) S2x2048x256 .bf16)} (hC : CodesHeld K C) (d n j ρ : ℕ) (hd : d < 2) (hn : n < 8) (hj : j < 256) (hρ : ρ < 256) :
    m8.view.readCov C (ccols d n).toLoadRect (i3 0 j ρ Nat.one_pos hj hρ) = ((codeK K d (256 * n + j) ρ : ℝ) : EReal) :=
  (readCov_at m8 C _ (i3 d (256 * n + j) ρ hd (by omega) hρ) fun (a : Fin 3) => by
    match a with
    | ⟨0, _⟩ => show d = d % 2 + 0; omega
    | ⟨1, _⟩ => show 256 * n + j = 256 * (n % 8) + j; omega
    | ⟨2, _⟩ => exact (Nat.zero_add ρ).symm).trans (hC _ _ _ _ _ _)

theorem bytes_hit {n z ρ j r c : ℕ} {w : (bytes n z).shape.Idx → BitVec 8} {B : List (View.Piece (Elt Ideal) S256x2048 .i8)}
    (hρ : ρ < 256) (hj : j < 2048) (hr : r < 32) (hc : c < 256) (h0 : ρ = 32 * (z % 8) + r) (h1 : j = 256 * (n % 8) + c) :
    View.canon (⟨bytes n z, w⟩ :: B) (i2 ρ j hρ hj) = w (i2 r c hr hc) :=
  canon_hit (s := S256x2048) (i2 ρ j hρ hj) (i2 r c hr hc) fun (a : Fin 2) => by
    match a with
    | ⟨0, _⟩ => exact h0
    | ⟨1, _⟩ => exact h1

theorem bytes_miss {n z ρ j : ℕ} {w : (bytes n z).shape.Idx → BitVec 8} {B : List (View.Piece (Elt Ideal) S256x2048 .i8)}
    (hρ : ρ < 256) (hj : j < 2048) (h : ρ / 32 ≠ z % 8 ∨ j / 256 ≠ n % 8) :
    View.canon (⟨bytes n z, w⟩ :: B) (i2 ρ j hρ hj) = View.canon B (i2 ρ j hρ hj) := by
  rcases h with h | h
  · exact canon_miss _ 0 (by show ρ < 32 * (z % 8) ∨ 32 * (z % 8) + 32 ≤ ρ; omega)
  · exact canon_miss _ 1 (by show j < 256 * (n % 8) ∨ 256 * (n % 8) + 256 ≤ j; omega)

/-- The stored bytes. -/
theorem canon_ws {P0 P1 : Vec Ideal S1x128x256 .bf16} (hP : Packs P0 P1) {C : List (View.Piece (Elt Ideal) S2x2048x256 .bf16)} (hC : CodesHeld K C)
    (ρ j : ℕ) (hρ : ρ < 256) (hj : j < 2048) : ∀ n ≤ 64, 8 * (j / 256) + ρ / 32 < n →
    View.canon (ws m8 P0 P1 C n) (i2 ρ j hρ hj) = byteAt (K ρ) j
  | 0, _, h => absurd h (by omega)
  | i + 1, hi, h => by
    show View.canon (⟨bytes (i / 8) i, bytePay (halves P0 P1 (m8.view.readCov C (ccols 0 (i / 8)).toLoadRect)
      (m8.view.readCov C (ccols 1 (i / 8)).toLoadRect)) i⟩ :: ws m8 P0 P1 C i) _ = _
    by_cases he : 8 * (j / 256) + ρ / 32 = i
    · have hr : ρ % 32 < 32 := by omega
      have hc : j % 256 < 256 := by omega
      rw [bytes_hit hρ hj hr hc (by omega) (by omega),
        bytePay_apply _ (fun k => codeK K 0 (256 * (i / 8) + j % 256) k) (fun k => codeK K 1 (256 * (i / 8) + j % 256) k)
          (fun _ => codeK_isCode K _ _ _) (fun _ => codeK_isCode K _ _ _) i (ρ % 32) (j % 256) hr hc fun m hm =>
          halves_apply hP _ _ _ _ m _ hm hc (fun k hk => ccols_apply K m8 hC 0 _ _ _ (by omega) (by omega) hc hk)
            (fun k hk => ccols_apply K m8 hC 1 _ _ _ (by omega) (by omega) hc hk)]
      rw [show 256 * (i / 8) + j % 256 = j by omega, show 32 * (i % 8) + ρ % 32 = ρ by omega]
      rfl
    · rw [bytes_miss hρ hj (by omega), canon_ws hP hC ρ j hρ hj i (by omega) (by omega)]

end Cert.KernelIdeal.Body

end
-- ==== Proof.Signs.lean ====
/- The matrices the first point stores. A sign matrix holds the scaled Hadamard matrix's entries times the signs (`canon_hsL`);
   the packing matrices select (`canon_packL`). A product of a sign matrix with the weights is then the channel `low`
   (`prod_apply`). -/
module

public import proofs.«01_k».proof.Proof.Bytes

@[expose] public section

set_option maxRecDepth 16384

noncomputable section

namespace Cert.KernelIdeal.Body

open Cert.KernelIdeal Cert.KernelIdeal.Gen Idealize.ShloMosaic Idealize.ShloMosaic.TcCoe Idealize.SL.Sem Cert.Fwht

/-! ## The Hadamard matrix -/

/-- The sign as an integer. -/
def sgZ : ℕ → ℕ → ℤ
  | 0, _ => 1
  | n + 1, p => sgZ n p * if p.testBit n then -1 else 1

theorem sg_eq (n p : ℕ) : sg n p = ((sgZ n p : ℤ) : ℝ) := by
  induction n with
  | zero => simp [sg, sgZ]
  | succ n ih =>
    unfold sg sgZ
    rw [ih]
    push_cast
    rfl

/-- The channel of a row, and the sign of a word's parity, as the program computes them. -/
def chanWord (r : BitVec 32) : BitVec 32 :=
  Scalar.select (IntOp.cmpi .slt r 128#32) (IntOp.muli 2#32 r) (IntOp.addi (IntOp.muli 2#32 (IntOp.subi r 128#32)) 1#32)
def fold4 (p : BitVec 32) : BitVec 32 := IntOp.xori p (IntOp.shrsi .vector p 4#32)
def fold2 (p : BitVec 32) : BitVec 32 := IntOp.xori p (IntOp.shrsi .vector p 2#32)
def fold1 (p : BitVec 32) : BitVec 32 := IntOp.xori p (IntOp.shrsi .vector p 1#32)
def signWord (p : BitVec 32) : BitVec 32 := IntOp.subi 1#32 (IntOp.muli 2#32 (IntOp.andi (fold1 (fold2 (fold4 p))) 1#32))

theorem chanWord_eq : ∀ r : Fin 256, chanWord (BitVec.ofNat 32 r.val) = BitVec.ofNat 32 (chan r.val) := by decide
theorem signWord_eq : ∀ p : Fin 256, (signWord (BitVec.ofNat 32 p.val)).toInt = sgZ 8 p.val := by decide

theorem and_word (c k : ℕ) (hc : c < 256) (hk : k < 256) : IntOp.andi (BitVec.ofNat 32 c) (BitVec.ofNat 32 k) = BitVec.ofNat 32 (c &&& k) := by
  have h : c &&& k < 256 := Nat.and_lt_two_pow (n := 8) c hk
  refine BitVec.eq_of_toNat_eq ?_
  show (BitVec.ofNat 32 c &&& BitVec.ofNat 32 k).toNat = _
  rw [BitVec.toNat_and, BitVec.toNat_ofNat, BitVec.toNat_ofNat, BitVec.toNat_ofNat, Nat.mod_eq_of_lt (by omega), Nat.mod_eq_of_lt (by omega),
    Nat.mod_eq_of_lt (by omega)]

theorem hadamard_word (j : S256x256.Idx) : (k0_pay2 (F := Ideal) j : EReal)
    = (((signWord (IntOp.andi (chanWord (iota .tc S256x256 32 [0] iota_S256x256_d0_w32 j)) (iota .tc S256x256 32 [1] iota_S256x256_d1_w32 j))).toInt : ℝ) : EReal)
      * Ideal.ofBits .f32 0x3C800000#32 := rfl

theorem hadamard_apply (r k : ℕ) (hr : r < 256) (hk : k < 256) :
    (k0_pay2 (F := Ideal) (i2 r k hr hk) : EReal) = ((sg 8 (chan r &&& k) * (1 / 64) : ℝ) : EReal) := by
  have h : chan r &&& k < 256 := Nat.and_lt_two_pow (n := 8) _ hk
  rw [hadamard_word, iota_single_apply, iota_single_apply]
  show (((signWord (IntOp.andi (chanWord (BitVec.ofNat 32 r)) (BitVec.ofNat 32 k))).toInt : ℝ) : EReal) * _ = _
  rw [chanWord_eq ⟨r, hr⟩, and_word _ _ (chan_lt r hr) hk, signWord_eq ⟨chan r &&& k, h⟩, const_kappa, sg_eq, EReal.coe_mul]
  rfl

/-! ## The sign matrices -/

theorem hsPay_apply (s0 s1 : Vec Ideal S1x128 .f32) (r k : ℕ) (hr : r < 256) (hk : k < 256) :
    (hsPay s0 s1 (i3 0 r k Nat.one_pos hr hk) : EReal) = ((sg 8 (chan r &&& k) * (1 / 64) : ℝ) : EReal)
      * (if h : k < 128 then s0 (i2 0 k Nat.one_pos h) else s1 (i2 0 (k - 128) Nat.one_pos (by omega)) : EReal) := by
  unfold hsPay
  rw [cast_add, ← hadamard_apply r k hr hk]
  show (k0_pay2 (F := Ideal) (i2 r k hr hk) : EReal) * (broadcastTo S256x256 _ broadcasts_S1x256_S256x256 (i2 r k hr hk) : EReal) = _
  rw [broadcastTo_apply _ _ (i2 r k hr hk) (i2 0 k Nat.one_pos hk) fun (a : Fin 2) => by
    match a with
    | ⟨0, _⟩ => rfl
    | ⟨1, _⟩ => rfl]
  congr 1
  by_cases h : k < 128
  · rw [dif_pos h]
    refine (concatenate_pair_apply_left (t := S1x256) (s₁ := S1x128) (s₂ := S1x128) 1 _ _ concatenates_S1x128_S1x128_S1x256_d1 (i2 0 k Nat.one_pos hk) rfl
      (i2 0 k Nat.one_pos h) fun (b : Fin 2) => ?_).trans (congrFun (shapeCast_self s0 shapeCasts_S1x128_S1x128) _)
    match b with
    | ⟨0, _⟩ => rfl
    | ⟨1, _⟩ => rfl
  · rw [dif_neg h]
    refine (concatenate_pair_apply_right (t := S1x256) (s₁ := S1x128) (s₂ := S1x128) 1 _ _ concatenates_S1x128_S1x128_S1x256_d1 (i2 0 k Nat.one_pos hk) rfl rfl
      (i2 0 (k - 128) Nat.one_pos (by omega)) (fun (b : Fin 2) hb => ?_) ?_).trans (congrFun (shapeCast_self s1 shapeCasts_S1x128_S1x128) _)
    · match b with
      | ⟨0, _⟩ => rfl
      | ⟨1, _⟩ => exact absurd rfl hb
    · show k - 128 + 128 = k; omega

/-- The signs `s` and the sign matrices made with them. -/
def SignMats (s : ℕ → EReal) (X : Vec Ideal S16x256x256 .bf16) : Prop := ∀ b r k (hb : b < 16) (hr : r < 256) (hk : k < 256),
  (X (i3 b r k hb hr hk) : EReal) = ((sg 8 (chan r &&& k) * (1 / 64) : ℝ) : EReal) * s (256 * b + k)

theorem canon_hsL (s : ℕ → EReal) (S : ℕ → Vec Ideal S1x128 .f32)
    (hS : ∀ b k (hb : b < 32) (hk : k < 128), (S b (i2 0 k Nat.one_pos hk) : EReal) = s (128 * b + k)) : SignMats s (View.canon (hsL S 16)) := by
  have key : ∀ n ≤ 16, ∀ b r k (hb : b < 16) (hr : r < 256) (hk : k < 256), b < n →
      (View.canon (hsL S n) (i3 b r k hb hr hk) : EReal) = ((sg 8 (chan r &&& k) * (1 / 64) : ℝ) : EReal) * s (256 * b + k) := by
    intro n
    induction n with
    | zero => exact fun _ b r k hb hr hk h => absurd h (by omega)
    | succ n ih =>
      intro hn b r k hb hr hk h
      show (View.canon (⟨plane n, hsPay (S (2 * n)) (S (2 * n + 1))⟩ :: hsL S n) (i3 b r k hb hr hk) : EReal) = _
      by_cases he : b = n
      · subst he
        rw [plane_hit hb hr hk (by omega), hsPay_apply]
        congr 1
        by_cases hc : k < 128
        · rw [dif_pos hc, hS _ _ (by omega) hc]; congr 1; omega
        · rw [dif_neg hc, hS _ _ (by omega) (by omega)]; congr 1; omega
      · rw [plane_miss hb hr hk (by omega)]
        exact ih (by omega) b r k hb hr hk (by omega)
  exact fun b r k hb hr hk => key 16 le_rfl b r k hb hr hk hb

/-! ## The packing matrices -/

/-- Both packing matrices. -/
def PackMats (X : Vec Ideal S2x128x256 .bf16) : Prop := ∀ m k (hm : m < 128) (hk : k < 256),
  (X (i3 0 m k (by omega) hm hk) : EReal) = ((selZ m k : ℝ) : EReal) ∧ (X (i3 1 m k (by omega) hm hk) : EReal) = (((16 * selZ m k : ℤ) : ℝ) : EReal)

/-- The place of the one, as the program computes it. -/
def posWord (m : BitVec 32) : BitVec 32 :=
  IntOp.addi (IntOp.addi (IntOp.muli (IntOp.shrsi .vector m 4#32) 32#32) (IntOp.muli (IntOp.andi m 7#32) 4#32))
    (IntOp.muli (IntOp.andi (IntOp.shrsi .vector m 3#32) 1#32) 2#32)

theorem posWord_eq : ∀ m : Fin 128, posWord (BitVec.ofNat 32 m.val) = BitVec.ofNat 32 (posOf m.val) := by decide

theorem sel_word (j : S128x256.Idx) : (selV (F := Ideal) j : EReal)
    = Scalar.select (IntOp.cmpi .eq (iota .tc S128x256 32 [1] iota_S128x256_d1_w32 j) (posWord (iota .tc S128x256 32 [0] iota_S128x256_d0_w32 j)))
      (Ideal.ofBits .f32 0x3F800000#32)
      (Scalar.select (IntOp.cmpi .eq (iota .tc S128x256 32 [1] iota_S128x256_d1_w32 j) (IntOp.addi (posWord (iota .tc S128x256 32 [0] iota_S128x256_d0_w32 j)) 1#32))
        (Ideal.ofBits .f32 0x43800000#32) (Ideal.ofBits .f32 0x00000000#32)) := rfl

theorem eq_word {α : Type} (a b : ℕ) (ha : a < 256) (hb : b < 257) (x y : α) :
    Scalar.select (IntOp.cmpi .eq (BitVec.ofNat 32 a) (BitVec.ofNat 32 b)) x y = if a = b then x else y := by
  have h : (BitVec.ofNat 32 a == BitVec.ofNat 32 b) = decide (a = b) := by
    rw [beq_eq_decide]
    refine decide_eq_decide.2 ⟨fun h => ?_, fun h => by rw [h]⟩
    have := congrArg BitVec.toNat h
    rwa [BitVec.toNat_ofNat, BitVec.toNat_ofNat, Nat.mod_eq_of_lt (by omega), Nat.mod_eq_of_lt (by omega)] at this
  show (if BitVec.ofBool (BitVec.ofNat 32 a == BitVec.ofNat 32 b) = 1 then x else y) = _
  rw [h]
  by_cases he : a = b
  · rw [decide_eq_true he, if_pos he]; rfl
  · rw [decide_eq_false he, if_neg he]; rfl

theorem sel_apply (m k : ℕ) (hm : m < 128) (hk : k < 256) : (selV (F := Ideal) (i2 m k hm hk) : EReal) = ((selZ m k : ℝ) : EReal) := by
  have hp : posOf m < 256 := by unfold posOf; omega
  rw [sel_word, iota_single_apply, iota_single_apply]
  show (Scalar.select (IntOp.cmpi .eq (BitVec.ofNat 32 k) (posWord (BitVec.ofNat 32 m))) (Ideal.ofBits .f32 0x3F800000#32)
    (Scalar.select (IntOp.cmpi .eq (BitVec.ofNat 32 k) (IntOp.addi (posWord (BitVec.ofNat 32 m)) 1#32)) (Ideal.ofBits .f32 0x43800000#32)
      (Ideal.ofBits .f32 0x00000000#32)) : EReal) = _
  rw [posWord_eq ⟨m, hm⟩, show IntOp.addi (BitVec.ofNat 32 (posOf m)) 1#32 = BitVec.ofNat 32 (posOf m + 1) from (BitVec.ofNat_add _ _).symm,
    eq_word _ _ hk (by show posOf m < 257; omega), eq_word _ _ hk (by omega), const_1, const_256, Ideal.ofBits_zero_f32]
  unfold selZ
  show (if k = posOf m then (1 : EReal) else _) = _
  split_ifs <;> norm_num

theorem pack_hit {h d m k : ℕ} {w : (pack h).shape.Idx → EReal} {L : List (View.Piece (Elt Ideal) S2x128x256 .bf16)}
    (hd : d < 2) (hm : m < 128) (hk : k < 256) (he : d = h % 2) :
    View.canon (⟨pack h, w⟩ :: L) (i3 d m k hd hm hk) = w (i3 0 m k Nat.one_pos hm hk) :=
  canon_hit (s := S2x128x256) (i3 d m k hd hm hk) (i3 0 m k Nat.one_pos hm hk) fun (a : Fin 3) => by
    match a with
    | ⟨0, _⟩ => exact he
    | ⟨1, _⟩ => exact (Nat.zero_add m).symm
    | ⟨2, _⟩ => exact (Nat.zero_add k).symm

theorem pack_miss {h d m k : ℕ} {w : (pack h).shape.Idx → EReal} {L : List (View.Piece (Elt Ideal) S2x128x256 .bf16)}
    (hd : d < 2) (hm : m < 128) (hk : k < 256) (he : d ≠ h % 2) :
    View.canon (⟨pack h, w⟩ :: L) (i3 d m k hd hm hk) = View.canon L (i3 d m k hd hm hk) :=
  canon_miss _ 0 (by show d < h % 2 ∨ h % 2 + 1 ≤ d; omega)

theorem canon_packL : PackMats (View.canon (packL (F := Ideal))) := by
  intro m k hm hk
  unfold packL
  refine ⟨?_, ?_⟩
  · rw [pack_miss (by omega) hm hk (by omega), pack_hit (by omega) hm hk (by omega), cast_add]
    exact sel_apply m k hm hk
  · rw [pack_hit (by omega) hm hk (by omega), cast_add]
    show (selV (F := Ideal) (i2 m k hm hk) : EReal) * Ideal.ofBits .f32 0x41800000#32 = _
    rw [sel_apply, const_16, show ((16 : ℝ) : EReal) = (((16 : ℤ) : ℝ) : EReal) by norm_num, coe_mul_int, mul_comm]

/-! ## The products -/

theorem prod_apply (H : Vec Ideal S1x256x256 .bf16) (W : Vec Ideal S256x256 .bf16) (r ρ : ℕ) (hr : r < 256) (hρ : ρ < 256) (h w : ℕ → EReal)
    (hH : ∀ k (hk : k < 256), (H (i3 0 r k Nat.one_pos hr hk) : EReal) = h k) (hW : ∀ k (hk : k < 256), (W (i2 ρ k hρ hk) : EReal) = w k) :
    (prod H W (i2 r ρ hr hρ) : EReal) = ∑ k ∈ Finset.range 256, h k * w k := by
  have e := Ideal.matmul_transposedRhs_apply (φ₁ := .bf16) (φ₂ := .bf16) none (shapeCast S256x256 H shapeCasts_S1x256x256_S256x256)
    (shapeCast S256x256 W shapeCasts_S256x256_S256x256) (constant (F := Ideal) S256x256 .f32 0x00000000#32) (⟨r, hr⟩ : Fin 256) (⟨ρ, hρ⟩ : Fin 256)
  rw [← Fin.sum_univ_eq_sum_range (fun k => h k * w k)]
  refine Eq.trans ?_ (e.trans ?_)
  · unfold prod
    exact congrArg (FloatOps.matmul (F := Ideal) _ _ _ _ _) (ix2_eq r ρ hr hρ)
  · rw [show (constant (F := Ideal) S256x256 .f32 0x00000000#32 (ValueIdx.ix2 (⟨r, hr⟩ : Fin 256) (⟨ρ, hρ⟩ : Fin 256)) : EReal) = 0 from Ideal.ofBits_zero_f32,
      zero_add]
    refine Finset.sum_congr rfl fun k _ => ?_
    rw [← hH k.val k.isLt, ← hW k.val k.isLt]
    exact congrArg₂ (fun x y : EReal => x * y)
      ((congrArg (shapeCast S256x256 H shapeCasts_S1x256x256_S256x256) (i2_eq (m := 256) (n := 256) _)).trans (cast_drop H _ r k.val hr k.isLt))
      ((congrFun (shapeCast_self W shapeCasts_S256x256_S256x256) _).trans (congrArg W (i2_eq (m := 256) (n := 256) _)))

end Cert.KernelIdeal.Body

end
-- ==== Proof.Block.lean ====
/- One grid point over the extended reals. If the point's blocks hold the weights of its 256 rows and the signs, and, after the
   first point, the two carried buffers hold the sign matrices and the packing matrices, then the bytes and the scales it stores
   are those of its rows (`point_bytes_A` to `point_scales_B`). -/
module

public import proofs.«01_k».proof.Proof.Match
public import proofs.«01_k».proof.Proof.Bytes
public import proofs.«01_k».proof.Proof.Signs

@[expose] public section

set_option maxRecDepth 16384

noncomputable section

namespace Cert.KernelIdeal.Body

open Cert.KernelIdeal Cert.KernelIdeal.Gen Idealize.ShloMosaic Idealize.ShloMosaic.TcCoe Idealize.SL.Sem Cert.Fwht

/-- A load from a buffer whose contents are known, read at an index. -/
theorem readAt_at {S : Shape} {e : EltTy} (m : Memref sig .tc .vmem S e) (hm : m.IsWhole) (X : Vec Ideal S e) {off size : Fin S.rank → ℕ}
    {inb : ∀ a, off a + size a ≤ S.size a} (j : (Rect.unit (s := S) off size inb).toLoadRect.shape.Idx) (x : S.Idx)
    (h : ∀ a, (x a).val = off a + (j a).val) :
    View.readAt (Elt Ideal) m.view (Rect.unit (s := S) off size inb).toLoadRect (hm.unread X) j = X x := by
  rw [View.readAt_apply, hm.read_unread]
  exact congrArg X (funext fun a => Fin.ext (by
    rw [h a]; show off a + 1 * (j a).val = _; rw [Nat.one_mul]))

/-! ## From the loads to the results -/

section
variable (w : ℕ → ℕ → EReal) (s : ℕ → EReal)
variable {H : ℕ → Vec Ideal S1x256x256 .bf16} {W : ℕ → Vec Ideal S256x256 .bf16}

/-- The transformed rows. -/
def kerRows (ρ : ℕ) : ℕ → EReal := kerRow (w ρ) s

/-- The loads of the sign matrices; -/
def SignLoads (H : ℕ → Vec Ideal S1x256x256 .bf16) : Prop := ∀ b r k (hb : b < 16) (hr : r < 256) (hk : k < 256),
  (H b (i3 0 r k Nat.one_pos hr hk) : EReal) = ((sg 8 (chan r &&& k) * (1 / 64) : ℝ) : EReal) * s (256 * b + k)
/-- the loads of the weights. -/
def WeightLoads (W : ℕ → Vec Ideal S256x256 .bf16) : Prop := ∀ b ρ k (hb : b < 16) (hρ : ρ < 256) (hk : k < 256),
  (W b (i2 ρ k hρ hk) : EReal) = w ρ (256 * b + k)

theorem products (hH : SignLoads s H) (hW : WeightLoads w W) : Products H W (fun b r ρ => low (w ρ) s (chan r) b) :=
  fun b hb r hr ρ hρ => prod_apply (H b) (W b) r ρ hr hρ _ _ (fun k hk => hH b r k hb hr hk) fun k hk => hW b ρ k hb hρ hk

theorem mixed_row (v : ℕ → EReal) (p r : ℕ) (hr : r < 256) : mixed v s (chan r) p = kerRow v s (256 * p + chan r) := by
  have h := chan_lt r hr
  unfold kerRow
  rw [show (256 * p + chan r) % 256 = chan r by omega, show (256 * p + chan r) / 256 = p by omega]

variable (m7 : Memref sig .tc .vmem S16x256x256 .f32)

theorem planes (hH : SignLoads s H) (hW : WeightLoads w W) : Planes (kerRows w s) (xs H W m7 128) :=
  fun p r ρ hp hr hρ => (canon_planes H W m7 _ (products w s hH hW) p r ρ hp hr hρ).trans (mixed_row s (w ρ) p r hr)

theorem chan_place (g t q : ℕ) (hg : g < 32) (ht : t < 16) (hq : q < 8) :
    256 * (g / 2) + chan (64 * (g % 2) + 128 * (t / 8) + 8 * (t % 8) + q) = 128 * g + (2 * (8 * (t % 8) + q) + t / 8) := by
  unfold chan
  split <;> omega

theorem maxima (hH : SignLoads s H) (hW : WeightLoads w W) : Maxima (kerRows w s) (ms H W m7 8) := by
  intro g q ρ hg hq hρ y
  refine (maxima_le H W m7 _ (products w s hH hW) g q ρ y hg hq hρ).trans (forall_congr' fun t => forall_congr' fun ht => ?_)
  have e : X2 (fun b r ρ => low (w ρ) s (chan r) b) (g / 2) (64 * (g % 2) + 128 * (t / 8) + 8 * (t % 8) + q) ρ
      = kerRows w s ρ (128 * g + (2 * (8 * (t % 8) + q) + t / 8)) := by
    rw [← chan_place g t q hg ht hq]
    exact mixed_row s (w ρ) (g / 2) _ (by omega)
  rw [e]

variable (m8 : Memref sig .tc .vmem S2x2048x256 .bf16) (m9 : Memref sig .tc .vmem S32x8x256 .f32) (m10 : Memref sig .tc .vmem S32x256 .f32)

theorem scales_of (hH : SignLoads s H) (hW : WeightLoads w W) (ρ g : ℕ) (hρ : ρ < 256) (hg : g < 32) :
    View.canon (scs m9 (ms H W m7 8)) (i2 ρ g hρ hg) = scaleAt (kerRow (w ρ) s) g :=
  canon_scs (kerRows w s) m9 (maxima w s m7 hH hW) ρ g hρ hg

theorem codes (hH : SignLoads s H) (hW : WeightLoads w W) :
    CodesHeld (kerRows w s) (cs m7 m10 (xs H W m7 128) (invs m9 (ms H W m7 8)) 64) :=
  fun d j ρ hd hj hρ => canon_cs (kerRows w s) m7 m9 m10 (planes w s m7 hH hW) (maxima w s m7 hH hW) d j ρ hd hj hρ 64 le_rfl (by omega)

theorem bytes_of (hH : SignLoads s H) (hW : WeightLoads w W) {P0 P1 : Vec Ideal S1x128x256 .bf16} (hP : Packs P0 P1)
    (ρ j : ℕ) (hρ : ρ < 256) (hj : j < 2048) :
    View.canon (ws m8 P0 P1 (cs m7 m10 (xs H W m7 128) (invs m9 (ms H W m7 8)) 64) 64) (i2 ρ j hρ hj) = byteAt (kerRow (w ρ) s) j :=
  canon_ws (kerRows w s) m8 hP (codes w s m7 m9 m10 hH hW) ρ j hρ hj 64 le_rfl (by omega)

end

/-! ## The loads of a point -/

section
variable (c : Dev nD) (i : grid0.Coords) (arg1 : Memref sig .tc .vmem S256x4096 .bf16) (harg1 : arg1.IsWhole) (arg2 : Memref sig .tc .vmem S32x128 .f32) (harg2 : arg2.IsWhole) (arg3 : Memref sig .tc .vmem S256x2048 .i8) (harg3 : arg3.IsWhole) (arg4 : Memref sig .tc .vmem S256x32 .f32) (harg4 : arg4.IsWhole) (arg5 : Memref sig .tc .vmem S16x256x256 .bf16) (harg5 : arg5.IsWhole) (arg6 : Memref sig .tc .vmem S2x128x256 .bf16) (harg6 : arg6.IsWhole) (arg7 : Memref sig .tc .vmem S16x256x256 .f32) (harg7 : arg7.IsWhole) (arg8 : Memref sig .tc .vmem S2x2048x256 .bf16) (harg8 : arg8.IsWhole) (arg9 : Memref sig .tc .vmem S32x8x256 .f32) (harg9 : arg9.IsWhole) (arg10 : Memref sig .tc .vmem S32x256 .f32) (harg10 : arg10.IsWhole)
variable (w : ℕ → ℕ → EReal) (s : ℕ → EReal) (x0 : Vec Ideal S256x4096 .bf16) (x1 : Vec Ideal S32x128 .f32)
variable (xs0 : Vec Ideal S16x256x256 .bf16) (xs1 : Vec Ideal S2x128x256 .bf16)

/-- The block holds the rows' weights; -/
def WeightBlock (x0 : Vec Ideal S256x4096 .bf16) : Prop := ∀ ρ i (hρ : ρ < 256) (hi : i < 4096), (x0 (i2 ρ i hρ hi) : EReal) = w ρ i
/-- the block holds the signs. -/
def SignBlock (x1 : Vec Ideal S32x128 .f32) : Prop := ∀ b k (hb : b < 32) (hk : k < 128), (x1 (i2 b k hb hk) : EReal) = s (128 * b + k)

theorem weights_loaded (h : WeightBlock w x0) : WeightLoads w (Wr arg1 harg1 x0) := by
  intro b ρ k hb hρ hk
  refine Eq.trans ?_ (h ρ (256 * b + k) hρ (by omega))
  exact readAt_at arg1 harg1 x0 (i2 ρ k hρ hk) (i2 ρ (256 * b + k) hρ (by omega)) fun (a : Fin 2) => by
    match a with
    | ⟨0, _⟩ => exact (Nat.zero_add ρ).symm
    | ⟨1, _⟩ => show 256 * b + k = 256 * (b % 16) + k; omega

theorem signs_loaded (h : SignBlock s x1) (b k : ℕ) (hb : b < 32) (hk : k < 128) :
    (Sr arg2 harg2 x1 b (i2 0 k Nat.one_pos hk) : EReal) = s (128 * b + k) := by
  refine Eq.trans ?_ (h b k hb hk)
  exact readAt_at arg2 harg2 x1 (i2 0 k Nat.one_pos hk) (i2 b k hb hk) fun (a : Fin 2) => by
    match a with
    | ⟨0, _⟩ => show b = b % 32 + 0; omega
    | ⟨1, _⟩ => exact (Nat.zero_add k).symm

theorem mats_A (h : SignBlock s x1) : SignMats s (View.canon (hsL (Sr arg2 harg2 x1) 16)) :=
  canon_hsL s _ (signs_loaded arg2 harg2 s x1 h)

theorem mats_loaded_A (h : SignBlock s x1) : SignLoads s (HrA arg2 harg2 arg5 x1) := by
  intro b r k hb hr hk
  refine Eq.trans ?_ (mats_A arg2 harg2 s x1 h b r k hb hr hk)
  exact readCov_at arg5 _ (i3 0 r k Nat.one_pos hr hk) (i3 b r k hb hr hk) fun (a : Fin 3) => by
    match a with
    | ⟨0, _⟩ => show b = b % 16 + 0; omega
    | ⟨1, _⟩ => exact (Nat.zero_add r).symm
    | ⟨2, _⟩ => exact (Nat.zero_add k).symm

theorem mats_loaded_B (h : SignMats s xs0) : SignLoads s (HrB arg5 harg5 xs0) := by
  intro b r k hb hr hk
  refine Eq.trans ?_ (h b r k hb hr hk)
  exact readAt_at arg5 harg5 xs0 (i3 0 r k Nat.one_pos hr hk) (i3 b r k hb hr hk) fun (a : Fin 3) => by
    match a with
    | ⟨0, _⟩ => show b = b % 16 + 0; omega
    | ⟨1, _⟩ => exact (Nat.zero_add r).symm
    | ⟨2, _⟩ => exact (Nat.zero_add k).symm

theorem pack_loaded_A (d m k : ℕ) (hd : d < 2) (hm : m < 128) (hk : k < 256) :
    PrA (F := Ideal) arg6 d (i3 0 m k Nat.one_pos hm hk) = View.canon (packL (F := Ideal)) (i3 d m k hd hm hk) :=
  readCov_at arg6 _ (i3 0 m k Nat.one_pos hm hk) (i3 d m k hd hm hk) fun (a : Fin 3) => by
    match a with
    | ⟨0, _⟩ => show d = d % 2 + 0; omega
    | ⟨1, _⟩ => exact (Nat.zero_add m).symm
    | ⟨2, _⟩ => exact (Nat.zero_add k).symm

theorem pack_loaded_B (d m k : ℕ) (hd : d < 2) (hm : m < 128) (hk : k < 256) :
    PrB arg6 harg6 xs1 d (i3 0 m k Nat.one_pos hm hk) = xs1 (i3 d m k hd hm hk) :=
  readAt_at arg6 harg6 xs1 (i3 0 m k Nat.one_pos hm hk) (i3 d m k hd hm hk) fun (a : Fin 3) => by
    match a with
    | ⟨0, _⟩ => show d = d % 2 + 0; omega
    | ⟨1, _⟩ => exact (Nat.zero_add m).symm
    | ⟨2, _⟩ => exact (Nat.zero_add k).symm

theorem packs_A : Packs (PrA (F := Ideal) arg6 0) (PrA (F := Ideal) arg6 1) := fun m k hm hk =>
  ⟨(pack_loaded_A arg6 0 m k (by omega) hm hk).trans (canon_packL m k hm hk).1, (pack_loaded_A arg6 1 m k (by omega) hm hk).trans (canon_packL m k hm hk).2⟩

theorem packs_B (h : PackMats xs1) : Packs (PrB arg6 harg6 xs1 0) (PrB arg6 harg6 xs1 1) := fun m k hm hk =>
  ⟨(pack_loaded_B arg6 harg6 xs1 0 m k (by omega) hm hk).trans (h m k hm hk).1, (pack_loaded_B arg6 harg6 xs1 1 m k (by omega) hm hk).trans (h m k hm hk).2⟩

/-! ## What the point stores -/

theorem point_bytes_A (hc0 : cond0_0 i) (h0 : WeightBlock w x0) (h1 : SignBlock s x1) (ρ j : ℕ) (hρ : ρ < 256) (hj : j < 2048) :
    View.canon (kernelRun0_A c i arg1 harg1 arg2 harg2 arg3 harg3 arg4 harg4 arg5 harg5 arg6 harg6 arg7 harg7 arg8 harg8 arg9 harg9 arg10 harg10 hc0 x0 x1).1 (i2 ρ j hρ hj) = byteAt (kerRow (w ρ) s) j := by
  rw [out_bytes_A]
  exact bytes_of w s arg7 arg8 arg9 arg10 (mats_loaded_A arg2 harg2 arg5 s x1 h1) (weights_loaded arg1 harg1 w x0 h0) (packs_A arg6) ρ j hρ hj

theorem point_scales_A (hc0 : cond0_0 i) (h0 : WeightBlock w x0) (h1 : SignBlock s x1) (ρ g : ℕ) (hρ : ρ < 256) (hg : g < 32) :
    View.canon (kernelRun0_A c i arg1 harg1 arg2 harg2 arg3 harg3 arg4 harg4 arg5 harg5 arg6 harg6 arg7 harg7 arg8 harg8 arg9 harg9 arg10 harg10 hc0 x0 x1).2.1 (i2 ρ g hρ hg) = scaleAt (kerRow (w ρ) s) g := by
  rw [out_scales_A]
  exact scales_of w s arg7 arg9 (mats_loaded_A arg2 harg2 arg5 s x1 h1) (weights_loaded arg1 harg1 w x0 h0) ρ g hρ hg

theorem point_bytes_B (hc0 : ¬cond0_0 i) (h0 : WeightBlock w x0) (h1 : SignMats s xs0) (h2 : PackMats xs1) (ρ j : ℕ) (hρ : ρ < 256) (hj : j < 2048) :
    View.canon (kernelRun0_B c i arg1 harg1 arg2 harg2 arg3 harg3 arg4 harg4 arg5 harg5 arg6 harg6 arg7 harg7 arg8 harg8 arg9 harg9 arg10 harg10 hc0 x0 x1 xs0 xs1).1 (i2 ρ j hρ hj) = byteAt (kerRow (w ρ) s) j := by
  rw [out_bytes_B]
  exact bytes_of w s arg7 arg8 arg9 arg10 (mats_loaded_B arg5 harg5 s xs0 h1) (weights_loaded arg1 harg1 w x0 h0) (packs_B arg6 harg6 xs1 h2) ρ j hρ hj

theorem point_scales_B (hc0 : ¬cond0_0 i) (h0 : WeightBlock w x0) (h1 : SignMats s xs0) (ρ g : ℕ) (hρ : ρ < 256) (hg : g < 32) :
    View.canon (kernelRun0_B c i arg1 harg1 arg2 harg2 arg3 harg3 arg4 harg4 arg5 harg5 arg6 harg6 arg7 harg7 arg8 harg8 arg9 harg9 arg10 harg10 hc0 x0 x1 xs0 xs1).2.1 (i2 ρ g hρ hg) = scaleAt (kerRow (w ρ) s) g := by
  rw [out_scales_B]
  exact scales_of w s arg7 arg9 (mats_loaded_B arg5 harg5 s xs0 h1) (weights_loaded arg1 harg1 w x0 h0) ρ g hρ hg

end

end Cert.KernelIdeal.Body

end
-- ==== Proof.RefStage.lean ====
/- One radix-2 step of the reference, at any distance `h`, read at an index. The reference splits the last axis of 4096
   into `n` pairs of runs of `h` values, adds and subtracts the runs of a pair, and puts them together again:
   on each row this is `stage h` of Transform.lean (`stageArr_row`). -/
module

public import proofs.«01_k».proof.Proof.Transform
public import Idealize.ShloMosaic.Lib.Pipeline.Value

@[expose] public section

noncomputable section

namespace Cert.Fwht

open Idealize.ShloMosaic

/-- The whole array; -/
abbrev T3 : Shape := ⟨3, ![1, 14336, 4096]⟩
/-- with the last axis as runs; -/
abbrev T4 (n h : ℕ) : Shape := ⟨4, ![1, 14336, n, h]⟩
/-- with the last axis as `m` runs in each of `n` groups. -/
abbrev T5 (n m h : ℕ) : Shape := ⟨5, ![1, 14336, n, m, h]⟩

abbrev at3 (r : Fin 14336) (i : Fin 4096) : T3.Idx := fun a => match a with
  | ⟨0, _⟩ => ⟨0, Nat.one_pos⟩
  | ⟨1, _⟩ => ⟨r.val, r.isLt⟩
  | ⟨2, _⟩ => ⟨i.val, i.isLt⟩

abbrev at4 {n h : ℕ} (r : Fin 14336) (p : Fin n) (e : Fin h) : (T4 n h).Idx := fun a => match a with
  | ⟨0, _⟩ => ⟨0, Nat.one_pos⟩
  | ⟨1, _⟩ => ⟨r.val, r.isLt⟩
  | ⟨2, _⟩ => ⟨p.val, p.isLt⟩
  | ⟨3, _⟩ => ⟨e.val, e.isLt⟩

abbrev at5 {n m h : ℕ} (r : Fin 14336) (p : Fin n) (q : Fin m) (e : Fin h) : (T5 n m h).Idx := fun a => match a with
  | ⟨0, _⟩ => ⟨0, Nat.one_pos⟩
  | ⟨1, _⟩ => ⟨r.val, r.isLt⟩
  | ⟨2, _⟩ => ⟨p.val, p.isLt⟩
  | ⟨3, _⟩ => ⟨q.val, q.isLt⟩
  | ⟨4, _⟩ => ⟨e.val, e.isLt⟩

/-- Row `r` of an array, zero beyond its 4096 values. -/
def rowOf (y : FVec Ideal T3 .f32) (r : Fin 14336) (i : ℕ) : EReal := if h : i < 4096 then y (at3 r ⟨i, h⟩) else 0

theorem rowOf_lt (y : FVec Ideal T3 .f32) (r : Fin 14336) {i : ℕ} (h : i < 4096) : rowOf y r i = y (at3 r ⟨i, h⟩) := dif_pos h

section
variable {n h : ℕ} (hc : T3.ShapeCasts (T5 n 2 h)) (h0 : (T5 n 2 h).Slices ![0, 0, 0, 0, 0] (T5 n 1 h))
  (h1 : (T5 n 2 h).Slices ![0, 0, 0, 1, 0] (T5 n 1 h)) (hr : (T5 n 1 h).ShapeCasts (T4 n h))
  (hb : (T4 n h).BroadcastsInDim (T5 n 1 h) (![0, 1, 2, 4] : Fin 4 → Fin (T5 n 1 h).rank))
  (hj : Shape.Concatenates [T5 n 1 h, T5 n 1 h] (T5 n 2 h) 3) (hd : (T5 n 2 h).ShapeCasts T3) (y : FVec Ideal T3 .f32)

/-- The first runs of the pairs; -/
def firsts : FVec Ideal (T4 n h) .f32 := shapeCast (T4 n h) (extractStridedSlice (T5 n 1 h) ![0, 0, 0, 0, 0] (shapeCast (T5 n 2 h) y hc) h0) hr
/-- the second runs; -/
def seconds : FVec Ideal (T4 n h) .f32 := shapeCast (T4 n h) (extractStridedSlice (T5 n 1 h) ![0, 0, 0, 1, 0] (shapeCast (T5 n 2 h) y hc) h1) hr
/-- sums and differences joined. -/
def stageArr : FVec Ideal T3 .f32 :=
  shapeCast T3 (concatenate (T5 n 2 h) 3 [⟨T5 n 1 h, broadcastInDim (T5 n 1 h) ![0, 1, 2, 4] hb (addf (firsts hc h0 hr y) (seconds hc h1 hr y))⟩,
    ⟨T5 n 1 h, broadcastInDim (T5 n 1 h) ![0, 1, 2, 4] hb (subf (firsts hc h0 hr y) (seconds hc h1 hr y))⟩] hj) hd

variable (hn : n * 2 * h = 4096)

include hn in
theorem cast_apply (r : Fin 14336) (p : Fin n) (q : Fin 2) (e : Fin h) (i : Fin 4096) (hi : (p.val * 2 + q.val) * h + e.val = i.val) :
    shapeCast (T5 n 2 h) y hc (at5 r p q e) = y (at3 r i) := by
  refine shapeCast_apply y hc _ (at3 r i) ?_
  rw [Shape.rowMajor_val_three, Shape.rowMajor_val_five]
  show (0 * 14336 + r.val) * 4096 + i.val = (((0 * 14336 + r.val) * n + p.val) * 2 + q.val) * h + e.val
  rw [← hi, ← hn]
  ring

include hn in
theorem firsts_apply (r : Fin 14336) (p : Fin n) (e : Fin h) (i : Fin 4096) (hi : p.val * 2 * h + e.val = i.val) :
    firsts hc h0 hr y (at4 r p e) = y (at3 r i) := by
  unfold firsts
  rw [shapeCast_apply _ hr _ (at5 r p 0 e) (by
      rw [Shape.rowMajor_val_four, Shape.rowMajor_val_five]
      show (((0 * 14336 + r.val) * n + p.val) * 1 + 0) * h + e.val = ((0 * 14336 + r.val) * n + p.val) * h + e.val
      ring),
    extractStridedSlice_apply _ _ h0 _ (at5 r p 0 e) (fun a => match a with
      | ⟨0, _⟩ => (Nat.zero_add _).symm
      | ⟨1, _⟩ => (Nat.zero_add _).symm
      | ⟨2, _⟩ => (Nat.zero_add _).symm
      | ⟨3, _⟩ => rfl
      | ⟨4, _⟩ => (Nat.zero_add _).symm)]
  exact cast_apply hc y hn r p 0 e i (by rw [← hi]; rfl)

include hn in
theorem seconds_apply (r : Fin 14336) (p : Fin n) (e : Fin h) (i : Fin 4096) (hi : (p.val * 2 + 1) * h + e.val = i.val) :
    seconds hc h1 hr y (at4 r p e) = y (at3 r i) := by
  unfold seconds
  rw [shapeCast_apply _ hr _ (at5 r p 0 e) (by
      rw [Shape.rowMajor_val_four, Shape.rowMajor_val_five]
      show (((0 * 14336 + r.val) * n + p.val) * 1 + 0) * h + e.val = ((0 * 14336 + r.val) * n + p.val) * h + e.val
      ring),
    extractStridedSlice_apply _ _ h1 _ (at5 r p 1 e) (fun a => match a with
      | ⟨0, _⟩ => (Nat.zero_add _).symm
      | ⟨1, _⟩ => (Nat.zero_add _).symm
      | ⟨2, _⟩ => (Nat.zero_add _).symm
      | ⟨3, _⟩ => rfl
      | ⟨4, _⟩ => (Nat.zero_add _).symm)]
  exact cast_apply hc y hn r p 1 e i (by rw [← hi]; rfl)

/-- The broadcast along a new unit axis. -/
theorem spread_apply (x : FVec Ideal (T4 n h) .f32) (r : Fin 14336) (p : Fin n) (q : Fin 1) (e : Fin h) :
    broadcastInDim (T5 n 1 h) ![0, 1, 2, 4] hb x (at5 r p q e) = x (at4 r p e) :=
  broadcastInDim_apply _ hb x _ (at4 r p e) (fun a => match a with
    | ⟨0, _⟩ => rfl
    | ⟨1, _⟩ => by show r.val = if (14336 : ℕ) = 1 then 0 else r.val; rw [if_neg (by decide)]
    | ⟨2, _⟩ => by
      show p.val = if n = 1 then 0 else p.val
      split_ifs with h1
      · have := p.isLt; omega
      · rfl
    | ⟨3, _⟩ => by
      show e.val = if h = 1 then 0 else e.val
      split_ifs with h1
      · have := e.isLt; omega
      · rfl)

include hn in
theorem stageArr_row (r : Fin 14336) (i : ℕ) (hi : i < 4096) :
    rowOf (stageArr hc h0 h1 hr hb hj hd y) r i = stage h (rowOf y r) i := by
  have hpos : 0 < h := Nat.pos_of_ne_zero fun h0 => by rw [h0, Nat.mul_zero] at hn; exact absurd hn (by norm_num)
  have hp : i / h / 2 < n := by
    rw [Nat.div_div_eq_div_mul, Nat.div_lt_iff_lt_mul (by positivity)]
    calc i < 4096 := hi
      _ = n * (h * 2) := by rw [← hn]; ring
  have hmod := Nat.div_add_mod i h
  have he : i % h < h := Nat.mod_lt _ hpos
  have hq : i / h % 2 < 2 := Nat.mod_lt _ (by norm_num)
  have hsplit : i / h / 2 * 2 + i / h % 2 = i / h := by omega
  have hall : (i / h / 2 * 2 + i / h % 2) * h + i % h = i := by rw [hsplit, mul_comm]; exact hmod
  rw [rowOf_lt _ _ hi]
  unfold stageArr
  rw [shapeCast_apply _ hd _ (at5 r ⟨i / h / 2, hp⟩ ⟨i / h % 2, hq⟩ ⟨i % h, he⟩) (by
    rw [Shape.rowMajor_val_three, Shape.rowMajor_val_five]
    show (((0 * 14336 + r.val) * n + i / h / 2) * 2 + i / h % 2) * h + i % h = (0 * 14336 + r.val) * 4096 + i
    calc _ = r.val * (n * 2 * h) + ((i / h / 2 * 2 + i / h % 2) * h + i % h) := by ring
      _ = _ := by rw [hall, hn]; ring)]
  unfold stage
  have hub : (i / h / 2 * 2 + 1) * h + i % h < 4096 := by
    calc _ < (i / h / 2 * 2 + 1) * h + h := by omega
      _ = (i / h / 2 + 1) * (2 * h) := by ring
      _ ≤ n * (2 * h) := Nat.mul_le_mul_right _ hp
      _ = 4096 := by rw [← hn]; ring
  rcases (show i / h % 2 = 0 ∨ i / h % 2 = 1 by omega) with hz | hz
  · have hi0 : i / h / 2 * 2 * h + i % h = i := by rw [hz] at hall; exact hall
    have hi1 : (i / h / 2 * 2 + 1) * h + i % h = i + h := by
      calc _ = (i / h / 2 * 2 * h + i % h) + h := by ring
        _ = _ := by rw [hi0]
    have hlt : i + h < 4096 := by rw [← hi1]; exact hub
    rw [if_pos hz, rowOf_lt _ _ hi, rowOf_lt _ _ hlt]
    rw [concatenate_pair_apply_left 3 _ _ hj (at5 r ⟨i / h / 2, hp⟩ ⟨i / h % 2, hq⟩ ⟨i % h, he⟩) rfl (at5 r ⟨i / h / 2, hp⟩ 0 ⟨i % h, he⟩) (fun a => match a with
      | ⟨0, _⟩ => rfl
      | ⟨1, _⟩ => rfl
      | ⟨2, _⟩ => rfl
      | ⟨3, _⟩ => hz.symm
      | ⟨4, _⟩ => rfl), spread_apply]
    show firsts hc h0 hr y _ + seconds hc h1 hr y _ = _
    rw [firsts_apply hc h0 hr y hn r _ _ ⟨i, hi⟩ hi0, seconds_apply hc h1 hr y hn r _ _ ⟨i + h, hlt⟩ hi1]
  · have hi1 : (i / h / 2 * 2 + 1) * h + i % h = i := by rw [hz] at hall; exact hall
    have hi0 : i / h / 2 * 2 * h + i % h = i - h := by
      have : (i / h / 2 * 2 + 1) * h + i % h = (i / h / 2 * 2 * h + i % h) + h := by ring
      omega
    have hlt : i - h < 4096 := by omega
    rw [if_neg (by omega), rowOf_lt _ _ hlt, rowOf_lt _ _ hi]
    rw [concatenate_pair_apply_right 3 _ _ hj (at5 r ⟨i / h / 2, hp⟩ ⟨i / h % 2, hq⟩ ⟨i % h, he⟩) rfl rfl (at5 r ⟨i / h / 2, hp⟩ 0 ⟨i % h, he⟩) (fun a ha => match a with
      | ⟨0, _⟩ => rfl
      | ⟨1, _⟩ => rfl
      | ⟨2, _⟩ => rfl
      | ⟨3, _⟩ => absurd rfl ha
      | ⟨4, _⟩ => rfl) (by show 0 + 1 = i / h % 2; omega), spread_apply]
    show firsts hc h0 hr y _ - seconds hc h1 hr y _ = _
    rw [firsts_apply hc h0 hr y hn r _ _ ⟨i - h, hlt⟩ hi0, seconds_apply hc h1 hr y hn r _ _ ⟨i, hi⟩ hi1]

end

/-- If the array's rows hold the first `t` steps, the next array's hold one more. -/
theorem stage_congr {h : ℕ} (hpos : 0 < h) {u v : ℕ → EReal} (huv : ∀ i < 4096, u i = v i) (hdvd : 2 * h ∣ 4096) (i : ℕ) (hi : i < 4096) :
    stage h u i = stage h v i := by
  unfold stage
  split_ifs with hz
  · have : i + h < 4096 := by
      obtain ⟨m, hm⟩ := hdvd
      have h2 : i / h / 2 < m := by
        rw [Nat.div_div_eq_div_mul, Nat.div_lt_iff_lt_mul (by positivity)]
        calc i < 4096 := hi
          _ = m * (h * 2) := by rw [hm]; ring
      have h3 := Nat.div_add_mod i h
      have h4 : i % h < h := Nat.mod_lt _ hpos
      have h5 : i / h = 2 * (i / h / 2) := by omega
      calc i + h = h * (2 * (i / h / 2)) + i % h + h := by rw [← h5]; omega
        _ < h * (2 * (i / h / 2)) + h + h := by omega
        _ = (i / h / 2 + 1) * (2 * h) := by ring
        _ ≤ m * (2 * h) := Nat.mul_le_mul_right _ h2
        _ = 4096 := by rw [hm]; ring
    rw [huv i hi, huv _ this]
  · rw [huv i hi, huv _ (by omega)]

end Cert.Fwht

end
-- ==== Proof.RefValue.lean ====
/- What the reference computes. Its transformed array holds on each row `refRow` (Quant.lean) of the weights' row and the
   signs (`transformed`), its scales are `scaleAt` of that row and its bytes `byteAt` of that row
   (`scales_apply`, `bytes_apply`). -/
module

public import proofs.«01_k».proof.Proof.Gen.ReferenceIdeal.Read
public import proofs.«01_k».proof.Proof.RefStage
public import proofs.«01_k».proof.Proof.Consts

@[expose] public section

noncomputable section

namespace Cert.Fwht

open Idealize.ShloMosaic Cert.ReferenceIdeal Cert.ReferenceIdeal.Read Cert.ReferenceIdeal.Gen

/-- Row `r` of the weights, zero beyond its 4096 values. -/
def wRow (x0 : T3.Idx → EReal) (r : Fin 14336) (i : ℕ) : EReal := if h : i < 4096 then x0 (at3 r ⟨i, h⟩) else 0

/-- A position among the signs. -/
abbrev at1 (i : Fin 4096) : (⟨1, ![4096]⟩ : Shape).Idx := fun a => match a with
  | ⟨0, _⟩ => ⟨i.val, i.isLt⟩

/-- The signs, zero beyond the 4096. -/
def sRow (x1 : (⟨1, ![4096]⟩ : Shape).Idx → EReal) (i : ℕ) : EReal := if h : i < 4096 then x1 (at1 ⟨i, h⟩) else 0

theorem wRow_zero (x0 : T3.Idx → EReal) (r : Fin 14336) (i : ℕ) (h : 4096 ≤ i) : wRow x0 r i = 0 := dif_neg (by omega)

/-- One more step. -/
theorem next {t n h : ℕ} (ht : 2 ^ t = h) (hn : n * 2 * h = 4096)
    {hc : T3.ShapeCasts (T5 n 2 h)} {h0 : (T5 n 2 h).Slices ![0, 0, 0, 0, 0] (T5 n 1 h)}
    {h1 : (T5 n 2 h).Slices ![0, 0, 0, 1, 0] (T5 n 1 h)} {hr : (T5 n 1 h).ShapeCasts (T4 n h)}
    {hb : (T4 n h).BroadcastsInDim (T5 n 1 h) (![0, 1, 2, 4] : Fin 4 → Fin (T5 n 1 h).rank)}
    {hj : Shape.Concatenates [T5 n 1 h, T5 n 1 h] (T5 n 2 h) 3} {hd : (T5 n 2 h).ShapeCasts T3} {y y' : FVec Ideal T3 .f32}
    (hy : y' = stageArr hc h0 h1 hr hb hj hd y) {r : Fin 14336} {v : ℕ → EReal} (ih : ∀ i < 4096, rowOf y r i = trans t v i) :
    ∀ i < 4096, rowOf y' r i = trans (t + 1) v i := by
  intro i hi
  rw [hy, stageArr_row hc h0 h1 hr hb hj hd y hn r i hi]
  show _ = stage (2 ^ t) (trans t v) i
  rw [ht]
  refine stage_congr (Nat.pos_of_ne_zero fun h0 => by rw [h0, Nat.mul_zero] at hn; exact absurd hn (by norm_num)) ih ⟨n, by rw [← hn]; ring⟩ i hi

section
variable (x0 : (⟨S1x14336x4096, .bf16⟩ : BufTy).Contents (Elt Ideal)) (x1 : (⟨S4096, .f32⟩ : BufTy).Contents (Elt Ideal))

theorem products (r : Fin 14336) : ∀ i < 4096, rowOf (val_main_v3 (F := Ideal) x0 x1) r i = wRow x0 r i * sRow x1 i := by
  intro i hi
  rw [rowOf_lt _ _ hi, val_main_v3_apply, val_main_v0_apply, val_main_v2_apply, val_main_v1_apply]
  unfold wRow sRow
  rw [dif_pos hi, dif_pos hi]
  show x0 _ * x1 _ = x0 _ * x1 _
  congr 2

/-- The twelve steps. -/
theorem transformed (r : Fin 14336) : ∀ i < 4096, rowOf (val_main_v135 (F := Ideal) x0 x1) r i = trans 12 (fun i => wRow x0 r i * sRow x1 i) i := by
  have h0 : ∀ i < 4096, rowOf (val_main_v3 (F := Ideal) x0 x1) r i = trans 0 (fun i => wRow x0 r i * sRow x1 i) i := products x0 x1 r
  have h1 := next (t := 0) (n := 2048) (h := 1) rfl rfl (y' := val_main_v14 (F := Ideal) x0 x1) rfl h0
  have h2 := next (t := 1) (n := 1024) (h := 2) rfl rfl (y' := val_main_v25 (F := Ideal) x0 x1) rfl h1
  have h3 := next (t := 2) (n := 512) (h := 4) rfl rfl (y' := val_main_v36 (F := Ideal) x0 x1) rfl h2
  have h4 := next (t := 3) (n := 256) (h := 8) rfl rfl (y' := val_main_v47 (F := Ideal) x0 x1) rfl h3
  have h5 := next (t := 4) (n := 128) (h := 16) rfl rfl (y' := val_main_v58 (F := Ideal) x0 x1) rfl h4
  have h6 := next (t := 5) (n := 64) (h := 32) rfl rfl (y' := val_main_v69 (F := Ideal) x0 x1) rfl h5
  have h7 := next (t := 6) (n := 32) (h := 64) rfl rfl (y' := val_main_v80 (F := Ideal) x0 x1) rfl h6
  have h8 := next (t := 7) (n := 16) (h := 128) rfl rfl (y' := val_main_v91 (F := Ideal) x0 x1) rfl h7
  have h9 := next (t := 8) (n := 8) (h := 256) rfl rfl (y' := val_main_v102 (F := Ideal) x0 x1) rfl h8
  have h10 := next (t := 9) (n := 4) (h := 512) rfl rfl (y' := val_main_v113 (F := Ideal) x0 x1) rfl h9
  have h11 := next (t := 10) (n := 2) (h := 1024) rfl rfl (y' := val_main_v124 (F := Ideal) x0 x1) rfl h10
  have h12 := next (t := 11) (n := 1) (h := 2048) rfl rfl (y' := val_main_v135 (F := Ideal) x0 x1) rfl h11
  exact h12

/-- The row that the reference quantises. -/
abbrev rRow (r : Fin 14336) : ℕ → EReal := refRow (wRow x0 r) (sRow x1)

theorem scaled (r : Fin 14336) (i : Fin 4096) : val_main_v137 (F := Ideal) x0 x1 (at3 r i) = rRow x0 x1 r i.val := by
  have h := transformed x0 x1 r i.val i.isLt
  rw [rowOf_lt _ _ i.isLt] at h
  rw [val_main_v137_apply, val_main_v136_apply, val_main_cst_apply]
  show val_main_v135 (F := Ideal) x0 x1 (at3 r i) * Ideal.ofBits .f32 0x3C800000#32 = _
  rw [const_kappa]
  unfold rRow refRow
  rw [← h]

/-- A place in the array of groups. -/
abbrev atg (r : Fin 14336) (g : Fin 32) (c : Fin 128) : S1x14336x32x128.Idx := fun a => match a with
  | ⟨0, _⟩ => ⟨0, Nat.one_pos⟩
  | ⟨1, _⟩ => ⟨r.val, r.isLt⟩
  | ⟨2, _⟩ => ⟨g.val, g.isLt⟩
  | ⟨3, _⟩ => ⟨c.val, c.isLt⟩

/-- A group. -/
abbrev ats (r : Fin 14336) (g : Fin 32) : S1x14336x32.Idx := fun a => match a with
  | ⟨0, _⟩ => ⟨0, Nat.one_pos⟩
  | ⟨1, _⟩ => ⟨r.val, r.isLt⟩
  | ⟨2, _⟩ => ⟨g.val, g.isLt⟩

theorem grouped (r : Fin 14336) (g : Fin 32) (c : Fin 128) : val_main_v138 (F := Ideal) x0 x1 (atg r g c) = rRow x0 x1 r (128 * g.val + c.val) := by
  have hg := g.isLt; have hc := c.isLt; have hr := r.isLt
  rw [val_main_v138_apply, ← scaled x0 x1 r ⟨128 * g.val + c.val, by omega⟩]
  congr 1
  funext a
  match a with
  | ⟨0, _⟩ => rfl
  | ⟨1, _⟩ => exact Fin.ext (by show (((0 * 14336 + r.val) * 32 + g.val) * 128 + c.val) / 4096 % 14336 = r.val; omega)
  | ⟨2, _⟩ => exact Fin.ext (by show (((0 * 14336 + r.val) * 32 + g.val) * 128 + c.val) % 4096 = 128 * g.val + c.val; omega)

/-- The groups' maxima are taken over the last axis. -/
theorem red3 : S1x14336x32x128.Reduces [3] S1x14336x32 := by decide

theorem lift_atg (hred : S1x14336x32x128.Reduces [3] S1x14336x32) (r : Fin 14336) (g : Fin 32) (c : Fin 128) : hred.lift (ats r g) c = atg r g c := by
  funext a
  match a with
  | ⟨0, _⟩ => exact Fin.ext rfl
  | ⟨1, _⟩ => exact Fin.ext rfl
  | ⟨2, _⟩ => exact Fin.ext rfl
  | ⟨3, _⟩ => exact Fin.ext rfl

theorem fold_le {ι : Type} (s : Finset ι) (f : ι → EReal) (b y : EReal) : s.fold (FloatOps.maximumf (F := Ideal) (φ := .f32)) b f ≤ y ↔ b ≤ y ∧ ∀ i ∈ s, f i ≤ y :=
  Finset.fold_max_le y

/-- A bound on a group's maximum bounds its members. -/
theorem reduce_le (x : FVec Ideal S1x14336x32x128 .f32) (init : FVec Ideal S_ .f32) (r : Fin 14336) (g : Fin 32) (y : EReal) :
    Host.reduce FloatOps.maximumf x init reducesTo_S1x14336x32x128_S1x14336x32_d3 h_S_ (ats r g) ≤ y
      ↔ init (Shape.Idx.first h_S_) ≤ y ∧ ∀ c : Fin 128, x (atg r g c) ≤ y := by
  rw [Host.reduce_eq_fold_single FloatOps.maximumf _ _ _ red3, fold_le]
  refine and_congr Iff.rfl ⟨fun h c => ?_, fun h c _ => ?_⟩
  · exact (congrArg x (lift_atg red3 r g c)).symm.le.trans (h c (Finset.mem_univ (α := Fin (S1x14336x32x128.size 3)) c))
  · exact (congrArg x (lift_atg red3 r g c)).le.trans (h c)

theorem largest (r : Fin 14336) (g : Fin 32) : val_main_v140 (F := Ideal) x0 x1 (ats r g) = amax (rRow x0 x1 r) g.val := by
  have hv : ∀ c : Fin 128, val_main_v139 (F := Ideal) x0 x1 (atg r g c) = max (rRow x0 x1 r (128 * g.val + c.val)) (-rRow x0 x1 r (128 * g.val + c.val)) := fun c => by
    rw [val_main_v139_apply, grouped]; rfl
  refine eq_of_forall_ge_iff fun y => ?_
  rw [amax_le_iff]
  unfold val_main_v140
  refine (reduce_le _ _ r g y).trans ⟨fun h c hc => (hv ⟨c, hc⟩).symm.le.trans (h.2 ⟨c, hc⟩), fun h => ⟨?_, fun c => (hv c).le.trans (h c.val c.isLt)⟩⟩
  rw [show val_main_cst_0 (F := Ideal) (Shape.Idx.first h_S_) = ⊥ from const_bot]
  exact bot_le

theorem scale_eq (r : Fin 14336) (g : Fin 32) : val_main_v145 (F := Ideal) x0 x1 (ats r g) = scaleAt (rRow x0 x1 r) g.val := by
  rw [val_main_v145_apply, val_main_v142_apply, val_main_v144_apply, val_main_call0_v0_apply, val_main_v141_apply, val_main_v143_apply, largest]
  unfold scaleAt scaleOf
  generalize amax (rRow x0 x1 r) g.val = a
  show Scalar.select (BitVec.ofBool (decide (a = Ideal.ofBits .f32 0x00000000#32))) (Ideal.ofBits .f32 0x3F800000#32)
    (Ideal.div a (Ideal.ofBits .f32 0x40E00000#32)) = _
  rw [Ideal.ofBits_zero_f32, Cert.Fwht.const_1, const_7]
  by_cases h : a = 0
  · rw [if_pos h, decide_eq_true h]; rfl
  · rw [if_neg h, decide_eq_false h]; rfl

/-- The reference's scales. -/
theorem scales_apply (r : Fin 14336) (g : Fin 32) (j : S14336x32.Idx) (hr : (j 0).val = r.val) (hg : (j 1).val = g.val) :
    val_main_v167 (F := Ideal) x0 x1 j = scaleAt (rRow x0 x1 r) g.val := by
  have h1 := g.isLt; have h2 := r.isLt
  rw [val_main_v167_apply, ← scale_eq]
  congr 1
  funext a
  match a with
  | ⟨0, _⟩ => rfl
  | ⟨1, _⟩ => exact Fin.ext (by show ((j 0).val * 32 + (j 1).val) / 32 % 14336 = r.val; omega)
  | ⟨2, _⟩ => exact Fin.ext (by show ((j 0).val * 32 + (j 1).val) % 32 = g.val; omega)

theorem code_eq (r : Fin 14336) (g : Fin 32) (c : Fin 128) :
    val_main_v151 (F := Ideal) x0 x1 (atg r g c) = BitVec.ofInt 32 (codeZ (rRow x0 x1 r (128 * g.val + c.val)) (scaleAt (rRow x0 x1 r) g.val)) := by
  have hs : val_main_v147 (F := Ideal) x0 x1 (atg r g c) = scaleAt (rRow x0 x1 r) g.val := by
    rw [val_main_v147_apply, val_main_v146_apply, ← scale_eq]
    congr 1
  rw [val_main_v151_apply, val_main_v150_apply, val_main_call2_v2_apply, val_main_v149_apply, val_main_v148_apply, grouped, hs,
    val_main_call2_v4_apply, val_main_call2_v1_apply]
  set x := rRow x0 x1 r (128 * g.val + c.val)
  set s := scaleAt (rRow x0 x1 r) g.val
  have hcode := codeOf_eq x s
  have hc : min (Ideal.ofBits .f32 0x40E00000#32) (max (Ideal.ofBits .f32 0xC0E00000#32) (Ideal.liftRound Ideal.roundHalfEven (Ideal.div x s)))
      = codeOf x s := by
    rw [const_7, const_neg7]
    unfold codeOf clampRound
    rw [min_comm, max_comm]
  show Ideal.fptosi 32 (min (Ideal.ofBits .f32 0x40E00000#32) (max (Ideal.ofBits .f32 0xC0E00000#32)
    (Ideal.liftRound Ideal.roundHalfEven (Ideal.div x s)))) = _
  have h1 := codeZ_ge x s; have h2 := codeZ_le x s
  rw [hc, hcode, fptosi_int _ (by omega) (by omega)]

/-- A nibble, before it is shifted. -/
theorem nibble_eq (r : Fin 14336) (i : Fin 4096) :
    val_main_v156 (F := Ideal) x0 x1 (at3 r i)
      = ((BitVec.ofInt 32 (codeZ (rRow x0 x1 r i.val) (scaleAt (rRow x0 x1 r) (i.val / 128)))).setWidth 8).signExtend 32 &&& 15#32 := by
  have hi := i.isLt; have hr := r.isLt
  have h := code_eq x0 x1 r ⟨i.val / 128, by omega⟩ ⟨i.val % 128, by omega⟩
  rw [show 128 * (i.val / 128) + i.val % 128 = i.val from Nat.div_add_mod _ _] at h
  have hidx : idx_main_v153 (at3 r i) = atg r ⟨i.val / 128, by omega⟩ ⟨i.val % 128, by omega⟩ := by
   funext a
   match a with
   | ⟨0, _⟩ => rfl
   | ⟨1, _⟩ => exact Fin.ext (by show ((0 * 14336 + r.val) * 4096 + i.val) / 4096 % 14336 = r.val; omega)
   | ⟨2, _⟩ => exact Fin.ext (by show ((0 * 14336 + r.val) * 4096 + i.val) / 128 % 32 = i.val / 128; omega)
   | ⟨3, _⟩ => exact Fin.ext (by show ((0 * 14336 + r.val) * 4096 + i.val) % 128 = i.val % 128; omega)
  rw [val_main_v156_apply, val_main_v154_apply, val_main_v153_apply, hidx, val_main_v152_apply, val_main_v155_apply, h]
  rfl

/-- A place among the bytes. -/
abbrev atb (r : Fin 14336) (j : Fin 2048) : S1x14336x2048.Idx := fun a => match a with
  | ⟨0, _⟩ => ⟨0, Nat.one_pos⟩
  | ⟨1, _⟩ => ⟨r.val, r.isLt⟩
  | ⟨2, _⟩ => ⟨j.val, j.isLt⟩

theorem even_eq (r : Fin 14336) (j : Fin 2048) : val_main_v159 (F := Ideal) x0 x1 (atb r j)
    = val_main_v156 (F := Ideal) x0 x1 (at3 r ⟨2 * j.val, by have := j.isLt; omega⟩) := by
  have hj := j.isLt; have hr := r.isLt
  rw [val_main_v159_apply, val_main_v158_apply, val_main_v157_apply]
  congr 1
  funext a
  match a with
  | ⟨0, _⟩ => rfl
  | ⟨1, _⟩ => exact Fin.ext (by simp; omega)
  | ⟨2, _⟩ => exact Fin.ext (by simp; omega)

theorem odd_eq (r : Fin 14336) (j : Fin 2048) : val_main_v161 (F := Ideal) x0 x1 (atb r j)
    = val_main_v156 (F := Ideal) x0 x1 (at3 r ⟨2 * j.val + 1, by have := j.isLt; omega⟩) := by
  have hj := j.isLt; have hr := r.isLt
  rw [val_main_v161_apply, val_main_v160_apply, val_main_v157_apply]
  congr 1
  funext a
  match a with
  | ⟨0, _⟩ => rfl
  | ⟨1, _⟩ => exact Fin.ext (by simp; omega)
  | ⟨2, _⟩ => exact Fin.ext (by simp; omega)

/-- The reference's bytes. -/
theorem bytes_apply (r : Fin 14336) (b : Fin 2048) (j : S14336x2048.Idx) (hr : (j 0).val = r.val) (hb : (j 1).val = b.val) :
    val_main_v166 (F := Ideal) x0 x1 j = byteAt (rRow x0 x1 r) b.val := by
  have h1 := b.isLt; have h2 := r.isLt
  have hidx : idx_main_v166 j = atb r b := by
    funext a
    match a with
    | ⟨0, _⟩ => rfl
    | ⟨1, _⟩ => exact Fin.ext (by show ((j 0).val * 2048 + (j 1).val) / 2048 % 14336 = r.val; omega)
    | ⟨2, _⟩ => exact Fin.ext (by show ((j 0).val * 2048 + (j 1).val) % 2048 = b.val; omega)
  rw [val_main_v166_apply, hidx, val_main_v165_apply, val_main_v164_apply, val_main_v163_apply, even_eq, odd_eq, nibble_eq, nibble_eq]
  unfold byteAt
  rw [show (2 * b.val) / 128 = b.val / 64 by omega, show (2 * b.val + 1) / 128 = b.val / 64 by omega]
  rw [← pack_ref _ _ (codeZ_ge _ _) (codeZ_le _ _) (codeZ_ge _ _) (codeZ_le _ _)]
  rfl

end

end Cert.Fwht

end
-- ==== Proof.KerValue.lean ====
/- What the kernel's two results hold over the extended reals. By induction over the grid points, each point stores the bytes and
   the scales of its 256 rows and leaves the sign matrices and the packing matrices for the next (`state_holds`); so each result
   holds, at a row, the bytes and the scales of the transformed row (`bytes_value`, `scales_value`). -/
module

public import proofs.«01_k».proof.Proof.Block
public import proofs.«01_k».proof.Proof.RefValue
public import proofs.«01_k».proof.Proof.Gen.KernelIdeal.Value

@[expose] public section

set_option maxRecDepth 16384

noncomputable section

namespace Cert.KernelIdeal.Body

open Cert.KernelIdeal Cert.KernelIdeal.Gen Cert.KernelIdeal.Value Idealize.ShloMosaic Idealize.ShloMosaic.TcCoe Idealize.SL.Sem Cert.Fwht

/-- What a point leaves: the bytes and scales of its rows, the sign matrices and the packing matrices. -/
structure Holds (w : ℕ → ℕ → EReal) (s : ℕ → EReal)
    (X : Vec Ideal S256x2048 .i8 × Vec Ideal S256x32 .f32 × Vec Ideal S16x256x256 .bf16 × Vec Ideal S2x128x256 .bf16) : Prop where
  bytes : ∀ ρ j (hρ : ρ < 256) (hj : j < 2048), X.1 (i2 ρ j hρ hj) = byteAt (kerRow (w ρ) s) j
  scales : ∀ ρ g (hρ : ρ < 256) (hg : g < 32), X.2.1 (i2 ρ g hρ hg) = scaleAt (kerRow (w ρ) s) g
  mats : SignMats s X.2.2.1
  packs : PackMats X.2.2.2

theorem holds_of {w : ℕ → ℕ → EReal} {s : ℕ → EReal} {a : Vec Ideal S256x2048 .i8} {b : Vec Ideal S256x32 .f32} {d : Vec Ideal S16x256x256 .bf16}
    {e : Vec Ideal S2x128x256 .bf16} (ha : ∀ ρ j (hρ : ρ < 256) (hj : j < 2048), a (i2 ρ j hρ hj) = byteAt (kerRow (w ρ) s) j)
    (hb : ∀ ρ g (hρ : ρ < 256) (hg : g < 32), b (i2 ρ g hρ hg) = scaleAt (kerRow (w ρ) s) g) (hd : SignMats s d) (he : PackMats e) :
    Holds w s (a, b, d, e) := ⟨ha, hb, hd, he⟩

section
variable (c : Dev nD) (i : grid0.Coords) (arg1 : Memref sig .tc .vmem S256x4096 .bf16) (harg1 : arg1.IsWhole) (arg2 : Memref sig .tc .vmem S32x128 .f32) (harg2 : arg2.IsWhole) (arg3 : Memref sig .tc .vmem S256x2048 .i8) (harg3 : arg3.IsWhole) (arg4 : Memref sig .tc .vmem S256x32 .f32) (harg4 : arg4.IsWhole) (arg5 : Memref sig .tc .vmem S16x256x256 .bf16) (harg5 : arg5.IsWhole) (arg6 : Memref sig .tc .vmem S2x128x256 .bf16) (harg6 : arg6.IsWhole) (arg7 : Memref sig .tc .vmem S16x256x256 .f32) (harg7 : arg7.IsWhole) (arg8 : Memref sig .tc .vmem S2x2048x256 .bf16) (harg8 : arg8.IsWhole) (arg9 : Memref sig .tc .vmem S32x8x256 .f32) (harg9 : arg9.IsWhole) (arg10 : Memref sig .tc .vmem S32x256 .f32) (harg10 : arg10.IsWhole)
variable {w : ℕ → ℕ → EReal} {s : ℕ → EReal} {x0 : Vec Ideal S256x4096 .bf16} {x1 : Vec Ideal S32x128 .f32}
variable {xs0 : Vec Ideal S16x256x256 .bf16} {xs1 : Vec Ideal S2x128x256 .bf16}

theorem mats_left_A (hc0 : cond0_0 i) (h1 : SignBlock s x1) : SignMats s (sout0_A_0 c i arg1 harg1 arg2 harg2 arg3 harg3 arg4 harg4 arg5 harg5 arg6 harg6 arg7 harg7 arg8 harg8 arg9 harg9 arg10 harg10 hc0 x0 x1) := by
  have e : sout0_A_0 c i arg1 harg1 arg2 harg2 arg3 harg3 arg4 harg4 arg5 harg5 arg6 harg6 arg7 harg7 arg8 harg8 arg9 harg9 arg10 harg10 hc0 x0 x1 = View.canon (hsL (Sr arg2 harg2 x1) 16) :=
    (View.read_writes_junk_eq_canon _ _).trans (congrArg View.canon (hs_A c i arg1 harg1 arg2 harg2 arg3 harg3 arg4 harg4 arg5 harg5 arg6 harg6 arg7 harg7 arg8 harg8 arg9 harg9 arg10 harg10 hc0 x0 x1))
  rw [e]
  exact mats_A arg2 harg2 s x1 h1

theorem packs_left_A (hc0 : cond0_0 i) : PackMats (sout0_A_1 c i arg1 harg1 arg2 harg2 arg3 harg3 arg4 harg4 arg5 harg5 arg6 harg6 arg7 harg7 arg8 harg8 arg9 harg9 arg10 harg10 hc0 x0 x1) := by
  have e : sout0_A_1 c i arg1 harg1 arg2 harg2 arg3 harg3 arg4 harg4 arg5 harg5 arg6 harg6 arg7 harg7 arg8 harg8 arg9 harg9 arg10 harg10 hc0 x0 x1 = View.canon (packL (F := Ideal)) :=
    (View.read_writes_junk_eq_canon _ _).trans (congrArg View.canon (pack_A c i arg1 harg1 arg2 harg2 arg3 harg3 arg4 harg4 arg5 harg5 arg6 harg6 arg7 harg7 arg8 harg8 arg9 harg9 arg10 harg10 hc0 x0 x1))
  rw [e]
  exact canon_packL

theorem bytes_left_A (hc0 : cond0_0 i) (h0 : WeightBlock w x0) (h1 : SignBlock s x1) (ρ j : ℕ) (hρ : ρ < 256) (hj : j < 2048) :
    out0_A_2 c i arg1 harg1 arg2 harg2 arg3 harg3 arg4 harg4 arg5 harg5 arg6 harg6 arg7 harg7 arg8 harg8 arg9 harg9 arg10 harg10 hc0 x0 x1 (i2 ρ j hρ hj) = byteAt (kerRow (w ρ) s) j := by
  unfold out0_A_2
  rw [View.read_writes_junk_eq_canon]
  exact point_bytes_A c i arg1 harg1 arg2 harg2 arg3 harg3 arg4 harg4 arg5 harg5 arg6 harg6 arg7 harg7 arg8 harg8 arg9 harg9 arg10 harg10 w s x0 x1 hc0 h0 h1 ρ j hρ hj

theorem scales_left_A (hc0 : cond0_0 i) (h0 : WeightBlock w x0) (h1 : SignBlock s x1) (ρ g : ℕ) (hρ : ρ < 256) (hg : g < 32) :
    out0_A_3 c i arg1 harg1 arg2 harg2 arg3 harg3 arg4 harg4 arg5 harg5 arg6 harg6 arg7 harg7 arg8 harg8 arg9 harg9 arg10 harg10 hc0 x0 x1 (i2 ρ g hρ hg) = scaleAt (kerRow (w ρ) s) g := by
  unfold out0_A_3
  rw [View.read_writes_junk_eq_canon]
  exact point_scales_A c i arg1 harg1 arg2 harg2 arg3 harg3 arg4 harg4 arg5 harg5 arg6 harg6 arg7 harg7 arg8 harg8 arg9 harg9 arg10 harg10 w s x0 x1 hc0 h0 h1 ρ g hρ hg

theorem bytes_left_B (hc0 : ¬cond0_0 i) (h0 : WeightBlock w x0) (h1 : SignMats s xs0) (h2 : PackMats xs1) (ρ j : ℕ) (hρ : ρ < 256) (hj : j < 2048) :
    out0_B_2 c i arg1 harg1 arg2 harg2 arg3 harg3 arg4 harg4 arg5 harg5 arg6 harg6 arg7 harg7 arg8 harg8 arg9 harg9 arg10 harg10 hc0 x0 x1 xs0 xs1 (i2 ρ j hρ hj) = byteAt (kerRow (w ρ) s) j := by
  unfold out0_B_2
  rw [View.read_writes_junk_eq_canon]
  exact point_bytes_B c i arg1 harg1 arg2 harg2 arg3 harg3 arg4 harg4 arg5 harg5 arg6 harg6 arg7 harg7 arg8 harg8 arg9 harg9 arg10 harg10 w s x0 x1 xs0 xs1 hc0 h0 h1 h2 ρ j hρ hj

theorem scales_left_B (hc0 : ¬cond0_0 i) (h0 : WeightBlock w x0) (h1 : SignMats s xs0) (ρ g : ℕ) (hρ : ρ < 256) (hg : g < 32) :
    out0_B_3 c i arg1 harg1 arg2 harg2 arg3 harg3 arg4 harg4 arg5 harg5 arg6 harg6 arg7 harg7 arg8 harg8 arg9 harg9 arg10 harg10 hc0 x0 x1 xs0 xs1 (i2 ρ g hρ hg) = scaleAt (kerRow (w ρ) s) g := by
  unfold out0_B_3
  rw [View.read_writes_junk_eq_canon]
  exact point_scales_B c i arg1 harg1 arg2 harg2 arg3 harg3 arg4 harg4 arg5 harg5 arg6 harg6 arg7 harg7 arg8 harg8 arg9 harg9 arg10 harg10 w s x0 x1 xs0 xs1 hc0 h0 h1 ρ g hρ hg

/-- The first point. -/
theorem holds_A (hc0 : cond0_0 i) (h0 : WeightBlock w x0) (h1 : SignBlock s x1) : Holds w s
    (out0_A_2 c i arg1 harg1 arg2 harg2 arg3 harg3 arg4 harg4 arg5 harg5 arg6 harg6 arg7 harg7 arg8 harg8 arg9 harg9 arg10 harg10 hc0 x0 x1, out0_A_3 c i arg1 harg1 arg2 harg2 arg3 harg3 arg4 harg4 arg5 harg5 arg6 harg6 arg7 harg7 arg8 harg8 arg9 harg9 arg10 harg10 hc0 x0 x1,
      sout0_A_0 c i arg1 harg1 arg2 harg2 arg3 harg3 arg4 harg4 arg5 harg5 arg6 harg6 arg7 harg7 arg8 harg8 arg9 harg9 arg10 harg10 hc0 x0 x1, sout0_A_1 c i arg1 harg1 arg2 harg2 arg3 harg3 arg4 harg4 arg5 harg5 arg6 harg6 arg7 harg7 arg8 harg8 arg9 harg9 arg10 harg10 hc0 x0 x1) :=
  holds_of (bytes_left_A c i arg1 harg1 arg2 harg2 arg3 harg3 arg4 harg4 arg5 harg5 arg6 harg6 arg7 harg7 arg8 harg8 arg9 harg9 arg10 harg10 hc0 h0 h1) (scales_left_A c i arg1 harg1 arg2 harg2 arg3 harg3 arg4 harg4 arg5 harg5 arg6 harg6 arg7 harg7 arg8 harg8 arg9 harg9 arg10 harg10 hc0 h0 h1)
    (mats_left_A c i arg1 harg1 arg2 harg2 arg3 harg3 arg4 harg4 arg5 harg5 arg6 harg6 arg7 harg7 arg8 harg8 arg9 harg9 arg10 harg10 hc0 h1) (packs_left_A c i arg1 harg1 arg2 harg2 arg3 harg3 arg4 harg4 arg5 harg5 arg6 harg6 arg7 harg7 arg8 harg8 arg9 harg9 arg10 harg10 hc0)

/-- A later point. -/
theorem holds_B (hc0 : ¬cond0_0 i) (h0 : WeightBlock w x0) (h1 : SignMats s xs0) (h2 : PackMats xs1) : Holds w s
    (out0_B_2 c i arg1 harg1 arg2 harg2 arg3 harg3 arg4 harg4 arg5 harg5 arg6 harg6 arg7 harg7 arg8 harg8 arg9 harg9 arg10 harg10 hc0 x0 x1 xs0 xs1, out0_B_3 c i arg1 harg1 arg2 harg2 arg3 harg3 arg4 harg4 arg5 harg5 arg6 harg6 arg7 harg7 arg8 harg8 arg9 harg9 arg10 harg10 hc0 x0 x1 xs0 xs1,
      sout0_B_0 c i arg1 harg1 arg2 harg2 arg3 harg3 arg4 harg4 arg5 harg5 arg6 harg6 arg7 harg7 arg8 harg8 arg9 harg9 arg10 harg10 hc0 x0 x1 xs0 xs1, sout0_B_1 c i arg1 harg1 arg2 harg2 arg3 harg3 arg4 harg4 arg5 harg5 arg6 harg6 arg7 harg7 arg8 harg8 arg9 harg9 arg10 harg10 hc0 x0 x1 xs0 xs1) :=
  holds_of (bytes_left_B c i arg1 harg1 arg2 harg2 arg3 harg3 arg4 harg4 arg5 harg5 arg6 harg6 arg7 harg7 arg8 harg8 arg9 harg9 arg10 harg10 hc0 h0 h1 h2) (scales_left_B c i arg1 harg1 arg2 harg2 arg3 harg3 arg4 harg4 arg5 harg5 arg6 harg6 arg7 harg7 arg8 harg8 arg9 harg9 arg10 harg10 hc0 h0 h1) h1 h2

end

/-! ## The blocks the points read -/

variable (m : (ℓ : Loc nD τ sig) → Buf (Elt Ideal) ℓ) (c : Dev nD)

/-- The launched weights and signs. -/
abbrev arg0 : (⟨3, ![1, 14336, 4096]⟩ : Shape).Idx → EReal := m ((c : Thread nD τ).loc main_arg0)
abbrev arg1 : (⟨1, ![4096]⟩ : Shape).Idx → EReal := m ((c : Thread nD τ).loc main_arg1)

theorem entry_weights : V m c main_v0 = shapeCast S14336x4096 (arg0 m c) shapeCasts_S1x14336x4096_S14336x4096 := by
  show StableHlo.after hostOps0 _ (Proc.devRef .tc main_v0) = _
  after_results_loop
  rfl

theorem entry_signs : V m c main_v1 = shapeCast S32x128 (arg1 m c) shapeCasts_S4096_S32x128 := by
  show StableHlo.after hostOps0 _ (Proc.devRef .tc main_v1) = _
  after_results_loop
  rfl

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)

/-- The weights of row `ρ` of point `t`'s block. -/
def wBlk (t ρ : ℕ) : ℕ → EReal := fun i => if h : 256 * t + ρ < 14336 then wRow (arg0 m c) ⟨256 * t + ρ, h⟩ i else 0

theorem weight_block (t : Fin cfg0.N) : WeightBlock (wBlk m c t.val) (iblk m c 0 t) := by
  intro ρ i hρ hi
  have ht : t.val < 56 := lt_of_lt_of_eq t.isLt N_0
  obtain ⟨e0, e1⟩ := index0 t
  have hlt : 256 * t.val + ρ < 14336 := by omega
  unfold wBlk wRow
  rw [dif_pos hlt, dif_pos hi]
  show V m c main_v0 (((cfg0.win 0).blk t).view.emb (i2 ρ i hρ hi)) = _
  rw [entry_weights]
  refine shapeCast_apply _ _ _ _ ?_
  rw [Shape.rowMajor_val_three, Shape.rowMajor_val_two]
  show (0 * 14336 + (256 * t.val + ρ)) * 4096 + i
    = (win0_0.index t (0 : Fin 2) * 256 + 1 * ρ) * 4096 + (win0_0.index t (1 : Fin 2) * 4096 + 1 * i)
  rw [e0, e1]
  ring

theorem sign_block (t : Fin cfg0.N) : SignBlock (sRow (arg1 m c)) (iblk m c 1 t) := by
  intro b k hb hk
  obtain ⟨e0, e1⟩ := index1 t
  have hlt : 128 * b + k < 4096 := by omega
  unfold sRow
  rw [dif_pos hlt]
  show V m c main_v1 (((cfg0.win 1).blk t).view.emb (i2 b k hb hk)) = _
  rw [entry_signs]
  refine shapeCast_apply _ _ _ _ ?_
  rw [Shape.rowMajor_val_one, Shape.rowMajor_val_two]
  show 128 * b + k
    = (win0_1.index t (0 : Fin 2) * 32 + 1 * b) * 128 + (win0_1.index t (1 : Fin 2) * 128 + 1 * k)
  rw [e0, e1]
  ring

/-! ## All points -/

theorem state_holds : ∀ n (hn : n < cfg0.N), Holds (wBlk m c n) (sRow (arg1 m c)) (outsAt0 m c n hn)
  | 0, hn => by
    rw [outsAt0_A m c ⟨0, hn⟩ (Nat.zero_mod _)]
    exact holds_A _ _ _ _ _ _ _ _ _ _ _ _ _ _ _ _ _ _ _ _ _ _ _ (weight_block m c ⟨0, hn⟩) (sign_block m c ⟨0, hn⟩)
  | n + 1, hn => by
    have hN : n + 1 < 56 := lt_of_lt_of_eq hn N_0
    have ih := state_holds n (Nat.lt_of_succ_lt hn)
    rw [outsAt0_B m c ⟨n + 1, hn⟩ (by show ¬(n + 1) % 56 = 0; omega)]
    exact holds_B _ _ _ _ _ _ _ _ _ _ _ _ _ _ _ _ _ _ _ _ _ _ _ (weight_block m c ⟨n + 1, hn⟩) ih.mats ih.packs

/-! ## The results -/

/-- The kernel's transformed row. -/
def kRow (r : Fin 14336) : ℕ → EReal := kerRow (wRow (arg0 m c) r) (sRow (arg1 m c))

theorem wBlk_row (r : Fin 14336) : wBlk m c (r.val / 256) (r.val % 256) = wRow (arg0 m c) r := by
  have h : 256 * (r.val / 256) + r.val % 256 = r.val := by omega
  funext i
  unfold wBlk
  rw [dif_pos (by omega)]
  exact congrArg (fun r => wRow (arg0 m c) r i) (Fin.ext h)

theorem bytes_value (r : Fin 14336) (b : Fin 2048) (j : S14336x2048.Idx) (hr : (j 0).val = r.val) (hb : (j 1).val = b.val) :
    G2 m c j = byteAt (kRow m c r) b.val := by
  have h0 := r.isLt
  have h1 := b.isLt
  have hp : pt2Of j = r.val / 256 := by
    show 1 * ((j 0).val / 256 - 0) + 1 * ((j 1).val / 2048 - 0) = _
    rw [hr, hb]; omega
  have hlt : pt2Of j < cfg0.N := by rw [hp, show cfg0.N = 56 from N_0]; omega
  unfold G2
  rw [dif_pos hlt, ← outsAt0_sweep m c _ hlt]
  have e := (state_holds m c (pt2Of j) hlt).bytes (r.val % 256) b.val (by omega) (by omega)
  have hl : loc2Of j = i2 (r.val % 256) b.val (by omega) (by omega) := by
    funext a
    match a with
    | ⟨0, _⟩ => exact Fin.ext (by show (j 0).val % 256 = r.val % 256; rw [hr])
    | ⟨1, _⟩ => exact Fin.ext (by show (j 1).val % 2048 = b.val; rw [hb]; omega)
  rw [hl, e, hp, wBlk_row]
  rfl

theorem scales_value (r : Fin 14336) (g : Fin 32) (j : S14336x32.Idx) (hr : (j 0).val = r.val) (hg : (j 1).val = g.val) :
    G3 m c j = scaleAt (kRow m c r) g.val := by
  have h0 := r.isLt
  have h1 := g.isLt
  have hp : pt3Of j = r.val / 256 := by
    show 1 * ((j 0).val / 256 - 0) + 1 * ((j 1).val / 32 - 0) = _
    rw [hr, hg]; omega
  have hlt : pt3Of j < cfg0.N := by rw [hp, show cfg0.N = 56 from N_0]; omega
  unfold G3
  rw [dif_pos hlt, ← outsAt0_sweep m c _ hlt]
  have e := (state_holds m c (pt3Of j) hlt).scales (r.val % 256) g.val (by omega) (by omega)
  have hl : loc3Of j = i2 (r.val % 256) g.val (by omega) (by omega) := by
    funext a
    match a with
    | ⟨0, _⟩ => exact Fin.ext (by show (j 0).val % 256 = r.val % 256; rw [hr])
    | ⟨1, _⟩ => exact Fin.ext (by show (j 1).val % 32 = g.val; rw [hg]; omega)
  rw [hl, e, hp, wBlk_row]
  rfl

/-! ## They are the reference's -/

theorem bytes_agree : G2 m c = Cert.ReferenceIdeal.Read.val_main_v166 (F := Ideal) (arg0 m c) (arg1 m c) := by
  funext j
  have hr : (j 0).val < 14336 := (j 0).isLt
  have hb : (j 1).val < 2048 := (j 1).isLt
  refine (bytes_value m c ⟨_, hr⟩ ⟨_, hb⟩ j rfl rfl).trans ?_
  refine Eq.trans ?_ (bytes_apply (arg0 m c) (arg1 m c) ⟨_, hr⟩ ⟨_, hb⟩ j rfl rfl).symm
  exact (rows_quantise_alike _ _ (wRow_zero (arg0 m c) ⟨_, hr⟩)).2 _ hb

theorem scales_agree : G3 m c = Cert.ReferenceIdeal.Read.val_main_v167 (F := Ideal) (arg0 m c) (arg1 m c) := by
  funext j
  have hr : (j 0).val < 14336 := (j 0).isLt
  have hg : (j 1).val < 32 := (j 1).isLt
  refine (scales_value m c ⟨_, hr⟩ ⟨_, hg⟩ j rfl rfl).trans ?_
  refine Eq.trans ?_ (scales_apply (arg0 m c) (arg1 m c) ⟨_, hr⟩ ⟨_, hg⟩ j rfl rfl).symm
  exact (rows_quantise_alike _ _ (wRow_zero (arg0 m c) ⟨_, hr⟩)).1 _ hg

end Cert.KernelIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.KerValue
public import Idealize.ShloMosaic.Adequacy
public import Idealize.ShloMosaic.Lib.Quiescent
public import Idealize.ShloMosaic.Init

@[expose] public section

noncomputable section

namespace Cert.Proof

open Idealize.ShloMosaic Idealize.ShloMosaic.StableHlo Idealize.SL.Sem Cert.Kernel

/-- The arguments of the two programs agree on device `c`. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ) (c : Dev Cert.KernelIdeal.nD)

/-- The reference's bytes are the kernel's; -/
theorem bytes_equal (h : Agree m m' c) :
    Cert.ReferenceIdeal.Read.val_main_v166 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = Cert.KernelIdeal.Value.G2 m c := by
  rw [h.1, h.2]
  exact (Cert.KernelIdeal.Body.bytes_agree m c).symm

/-- so are its scales. -/
theorem scales_equal (h : Agree m m' c) :
    Cert.ReferenceIdeal.Read.val_main_v167 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = Cert.KernelIdeal.Value.G3 m c := by
  rw [h.1, h.2]
  exact (Cert.KernelIdeal.Body.scales_agree m c).symm

end

theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => (θ_run _ _ _).mono (fun r h => ⟨fun c => (h c).2.2, sem_eq_zero_of_no_sems rfl r.2⟩)
      (Cert.ReferenceIdeal.Value.run m ρ),
    trivial,
    fun m ρ m' ρ' _ hargs => ⟨fun c => Cert.KernelIdeal.Value.G2 m c, fun c => Cert.KernelIdeal.Value.G3 m c,
      Cert.KernelIdeal.Value.run m ρ,
      (θ_run _ _ _).mono (fun r h c =>
        ⟨(h c).1.trans ((Cert.ReferenceIdeal.Read.val_main_v166_eq (launchContents m' c)).trans (bytes_equal m m' c (hargs c))),
          (h c).2.1.trans ((Cert.ReferenceIdeal.Read.val_main_v167_eq (launchContents m' c)).trans (scales_equal m m' c (hargs c))), (h c).2.2⟩)
        (Cert.ReferenceIdeal.Value.run m' ρ')⟩⟩

end Cert.Proof

end
